-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_v125) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v58_0)) (v1 : (c : Dev Cert.MixIdeal.nD) → Buf (Elt Ideal) ((c.tc : Thread Cert.MixIdeal.nD Cert.MixIdeal.τ).loc Cert.MixIdeal.main_v58_1)) (v2 : (c : Dev Cert.MixIdeal.nD) → Buf (Elt Ideal) ((c.tc : Thread Cert.MixIdeal.nD Cert.MixIdeal.τ).loc Cert.MixIdeal.main_v58_2)) (v3 : (c : Dev Cert.MixIdeal.nD) → Buf (Elt Ideal) ((c.tc : Thread Cert.MixIdeal.nD Cert.MixIdeal.τ).loc Cert.MixIdeal.main_v58_3)) (v4 : (c : Dev Cert.MixIdeal.nD) → Buf (Elt Ideal) ((c.tc : Thread Cert.MixIdeal.nD Cert.MixIdeal.τ).loc Cert.MixIdeal.main_v58_4)) (v5 : (c : Dev Cert.MixIdeal.nD) → Buf (Elt Ideal) ((c.tc : Thread Cert.MixIdeal.nD Cert.MixIdeal.τ).loc Cert.MixIdeal.main_v58_5)) (v6 : (c : Dev Cert.MixIdeal.nD) → Buf (Elt Ideal) ((c.tc : Thread Cert.MixIdeal.nD Cert.MixIdeal.τ).loc Cert.MixIdeal.main_v58_6)) (v7 : (c : Dev Cert.MixIdeal.nD) → Buf (Elt Ideal) ((c.tc : Thread Cert.MixIdeal.nD Cert.MixIdeal.τ).loc Cert.MixIdeal.main_v58_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v58_0) = v0 c
          ∧ r.2.mem ((c.tc : Thread Cert.MixIdeal.nD Cert.MixIdeal.τ).loc Cert.MixIdeal.main_v58_1) = v1 c
          ∧ r.2.mem ((c.tc : Thread Cert.MixIdeal.nD Cert.MixIdeal.τ).loc Cert.MixIdeal.main_v58_2) = v2 c
          ∧ r.2.mem ((c.tc : Thread Cert.MixIdeal.nD Cert.MixIdeal.τ).loc Cert.MixIdeal.main_v58_3) = v3 c
          ∧ r.2.mem ((c.tc : Thread Cert.MixIdeal.nD Cert.MixIdeal.τ).loc Cert.MixIdeal.main_v58_4) = v4 c
          ∧ r.2.mem ((c.tc : Thread Cert.MixIdeal.nD Cert.MixIdeal.τ).loc Cert.MixIdeal.main_v58_5) = v5 c
          ∧ r.2.mem ((c.tc : Thread Cert.MixIdeal.nD Cert.MixIdeal.τ).loc Cert.MixIdeal.main_v58_6) = v6 c
          ∧ r.2.mem ((c.tc : Thread Cert.MixIdeal.nD Cert.MixIdeal.τ).loc Cert.MixIdeal.main_v58_7) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v152) = v0 c
          ∧ r.2.mem ((c.tc : Thread Cert.MixRefIdeal.nD Cert.MixRefIdeal.τ).loc Cert.MixRefIdeal.main_v153) = v1 c
          ∧ r.2.mem ((c.tc : Thread Cert.MixRefIdeal.nD Cert.MixRefIdeal.τ).loc Cert.MixRefIdeal.main_v154) = v2 c
          ∧ r.2.mem ((c.tc : Thread Cert.MixRefIdeal.nD Cert.MixRefIdeal.τ).loc Cert.MixRefIdeal.main_v155) = v3 c
          ∧ r.2.mem ((c.tc : Thread Cert.MixRefIdeal.nD Cert.MixRefIdeal.τ).loc Cert.MixRefIdeal.main_v156) = v4 c
          ∧ r.2.mem ((c.tc : Thread Cert.MixRefIdeal.nD Cert.MixRefIdeal.τ).loc Cert.MixRefIdeal.main_v157) = v5 c
          ∧ r.2.mem ((c.tc : Thread Cert.MixRefIdeal.nD Cert.MixRefIdeal.τ).loc Cert.MixRefIdeal.main_v158) = v6 c
          ∧ r.2.mem ((c.tc : Thread Cert.MixRefIdeal.nD Cert.MixRefIdeal.τ).loc Cert.MixRefIdeal.main_v151) = v7 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v10) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v7) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v4_0)) (v1 : (c : Dev Cert.InIdeal.nD) → Buf (Elt Ideal) ((c.tc : Thread Cert.InIdeal.nD Cert.InIdeal.τ).loc Cert.InIdeal.main_v4_1)) (v2 : (c : Dev Cert.InIdeal.nD) → Buf (Elt Ideal) ((c.tc : Thread Cert.InIdeal.nD Cert.InIdeal.τ).loc Cert.InIdeal.main_v4_2)) (v3 : (c : Dev Cert.InIdeal.nD) → Buf (Elt Ideal) ((c.tc : Thread Cert.InIdeal.nD Cert.InIdeal.τ).loc Cert.InIdeal.main_v4_3)) (v4 : (c : Dev Cert.InIdeal.nD) → Buf (Elt Ideal) ((c.tc : Thread Cert.InIdeal.nD Cert.InIdeal.τ).loc Cert.InIdeal.main_v4_4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v4_0) = v0 c
          ∧ r.2.mem ((c.tc : Thread Cert.InIdeal.nD Cert.InIdeal.τ).loc Cert.InIdeal.main_v4_1) = v1 c
          ∧ r.2.mem ((c.tc : Thread Cert.InIdeal.nD Cert.InIdeal.τ).loc Cert.InIdeal.main_v4_2) = v2 c
          ∧ r.2.mem ((c.tc : Thread Cert.InIdeal.nD Cert.InIdeal.τ).loc Cert.InIdeal.main_v4_3) = v3 c
          ∧ r.2.mem ((c.tc : Thread Cert.InIdeal.nD Cert.InIdeal.τ).loc Cert.InIdeal.main_v4_4) = v4 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v17) = v0 c
          ∧ r.2.mem ((c.tc : Thread Cert.InRefIdeal.nD Cert.InRefIdeal.τ).loc Cert.InRefIdeal.main_v24) = v1 c
          ∧ r.2.mem ((c.tc : Thread Cert.InRefIdeal.nD Cert.InRefIdeal.τ).loc Cert.InRefIdeal.main_v25) = v2 c
          ∧ r.2.mem ((c.tc : Thread Cert.InRefIdeal.nD Cert.InRefIdeal.τ).loc Cert.InRefIdeal.main_v26) = v3 c
          ∧ r.2.mem ((c.tc : Thread Cert.InRefIdeal.nD Cert.InRefIdeal.τ).loc Cert.InRefIdeal.main_v28) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixRefIdeal : Cert.MixRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hPool : Cert.Pool.Facts) (hPoolIdeal : Cert.PoolIdeal.Facts) (hPoolRefIdeal : Cert.PoolRefIdeal.Facts) (hProj : Cert.Proj.Facts) (hProjIdeal : Cert.ProjIdeal.Facts) (hProjRefIdeal : Cert.ProjRefIdeal.Facts) (hIn : Cert.In.Facts) (hInIdeal : Cert.InIdeal.Facts) (hInRefIdeal : Cert.InRefIdeal.Facts) (hPre_finite : Cert.Pre_finite.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Pool (hPool := hPool)
    ∧ quiescent_PoolIdeal (hPoolIdeal := hPoolIdeal)
    ∧ quiescent_PoolRefIdeal (hPoolRefIdeal := hPoolRefIdeal)
    ∧ quiescent_Proj (hProj := hProj)
    ∧ quiescent_ProjIdeal (hProjIdeal := hProjIdeal)
    ∧ quiescent_ProjRefIdeal (hProjRefIdeal := hProjRefIdeal)
    ∧ quiescent_In (hIn := hIn)
    ∧ quiescent_InIdeal (hInIdeal := hInIdeal)
    ∧ quiescent_InRefIdeal (hInRefIdeal := hInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Pool_PoolIdeal
    ∧ algebraic_PoolIdeal_PoolRefIdeal (hPoolIdeal := hPoolIdeal) (hPoolRefIdeal := hPoolRefIdeal)
    ∧ preserves_Proj_ProjIdeal
    ∧ algebraic_ProjIdeal_ProjRefIdeal (hProjIdeal := hProjIdeal) (hProjRefIdeal := hProjRefIdeal)
    ∧ preserves_In_InIdeal
    ∧ algebraic_InIdeal_InRefIdeal (hInIdeal := hInIdeal) (hInRefIdeal := hInRefIdeal)
-- ==== Pre_finite.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S1024x4096 .f32) (main_arg5 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1024 .f32) (main_arg3 : FVec F S1024 .f32) (main_arg4 : FVec F S1024x4096 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_finite_mix.lean ====
abbrev S4096x1024 : Shape := ⟨2, ![4096, 1024]⟩
abbrev S4096x2048 : Shape := ⟨2, ![4096, 2048]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S4x256x256 .f32) (main_arg8 : FVec F S1024 .f32) (main_arg9 : FVec F S1024x1024 .f32) (main_arg10 : FVec F S1024x1024 .f32) (main_arg11 : FVec F S1024 .f32) (main_v33 : IVec S_ 1) : IVec S_ 1 :=
  let main_v34 : FVec F S4x256x256 .f32 := Host.absf main_arg7
  let main_cst_12 : FVec F S_ .f32 := constant S_ .f32 0x7F800000#32
  let main_v35 : FVec F S4x256x256 .f32 := broadcastInDim S4x256x256 ![] bcast_S_S4x256x256 main_cst_12
  let main_v36 : IVec S4x256x256 1 := cmpf .olt main_v34 main_v35
  let main_c_13 : IVec S_ 1 := constantI S_ 1 1#1
  let main_v37 : IVec S_ 1 := (fun x v => Host.reduce IntOp.andi x v reducesTo_S4x256x256_S_d0_1_2 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024 .f32) (main_arg5 : FVec F S1024 .f32) (main_arg6 : FVec F S1024x1024 .f32) (main_arg7 : FVec F S4x256x256 .f32) (main_arg8 : FVec F S1024 .f32) (main_arg9 : FVec F S1024x1024 .f32) (main_arg10 : FVec F S1024x1024 .f32) (main_arg11 : FVec F S1024 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1024 .f32) (main_arg1 : FVec F S4096x1024 .f32) (main_arg2 : FVec F S4096x1024 .f32) (main_arg3 : FVec F S4096x2048 .f32) (main_arg4 : FVec F S1024 .f32) (main_arg5 : FVec F S1024 .f32) (main_arg6 : FVec F S1024x1024 .f32) (main_arg7 : FVec F S4x256x256 .f32) (main_arg8 : FVec F S1024 .f32) (main_arg9 : FVec F S1024x1024 .f32) (main_arg10 : FVec F S1024x1024 .f32) (main_arg11 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_v13 main_v16
-- ==== Kernel.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 18
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S4096x1024, .bf16⟩
  | .hbm, ⟨13, _⟩ => ⟨S4096x4096, .bf16⟩
  | .hbm, ⟨14, _⟩ => ⟨S4096x1024, .bf16⟩
  | .hbm, ⟨15, _⟩ => ⟨S4096x4096, .bf16⟩
  | .hbm, ⟨16, _⟩ => ⟨S4096x1024, .f32⟩
  | .hbm, ⟨17, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4x1024x1024, .bf16⟩
  | .local _ .vmem, ⟨7, _⟩ => ⟨S4096x1024, .bf16⟩
  | .local _ .vmem, ⟨8, _⟩ => ⟨S256x1024, .bf16⟩
  | .local _ .vmem, ⟨9, _⟩ => ⟨S256x1024, .bf16⟩
  | .local _ .vmem, ⟨10, _⟩ => ⟨S256x4096, .bf16⟩
  | .local _ .vmem, ⟨11, _⟩ => ⟨S256x4096, .bf16⟩
  | .local _ .vmem, ⟨12, _⟩ => ⟨S256x1024, .bf16⟩
  | .local _ .vmem, ⟨13, _⟩ => ⟨S256x1024, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | .local _ .vmem, ⟨19, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S5x1024 : Shape := ⟨2, ![5, 1024]⟩
abbrev S8x1024 : Shape := ⟨2, ![8, 1024]⟩

abbrev nBuf : Space → Nat
  | .hbm => 175
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024, .f32⟩
  | 4 => ⟨S1024x4096, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x4096, .f32⟩
  | 27 => ⟨S_, .f32⟩
  | 28 => ⟨S4096x4096, .f32⟩
  | 29 => ⟨S4096x4096, .f32⟩
  | 30 => ⟨S_, .f32⟩
  | 31 => ⟨S4096x4096, .f32⟩
  | 32 => ⟨S4096x4096, .i1⟩
  | 33 => ⟨S_, .f32⟩
  | 34 => ⟨S4096x4096, .f32⟩
  | 35 => ⟨S4096x4096, .f32⟩
  | 36 => ⟨S_, .f32⟩
  | 37 => ⟨S4096x4096, .f32⟩
  | 38 => ⟨S4096x4096, .f32⟩
  | 39 => ⟨S4096x1024, .f32⟩
  | 40 => ⟨S4096x1024, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1024, .f32⟩
  | 56 => ⟨S4096x1024, .f32⟩
  | 57 => ⟨S1x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S_, .f32⟩
  | 67 => ⟨S4096, .f32⟩
  | 68 => ⟨S_, .f32⟩
  | 69 => ⟨S4096, .f32⟩
  | 70 => ⟨S4096, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S4096, .f32⟩
  | 79 => ⟨S_, .f32⟩
  | 80 => ⟨S4096, .f32⟩
  | 81 => ⟨S4096, .f32⟩
  | 82 => ⟨S4096x1024, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S4096x1024, .f32⟩
  | 89 => ⟨S4096x1024, .f32⟩
  | 90 => ⟨S_, .f32⟩
  | 91 => ⟨S1024, .f32⟩
  | 92 => ⟨S4096x1024, .f32⟩
  | 93 => ⟨S_, .f32⟩
  | 94 => ⟨S4096, .f32⟩
  | 95 => ⟨S4096x1, .f32⟩
  | 96 => ⟨S4096x1024, .f32⟩
  | 97 => ⟨S4096x1024, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x4096, .f32⟩
  | 110 => ⟨S4096x4096, .f32⟩
  | 111 => ⟨S_, .f32⟩
  | 112 => ⟨S4096x4096, .f32⟩
  | 113 => ⟨S4096x4096, .f32⟩
  | 114 => ⟨S4096x1024, .f32⟩
  | 115 => ⟨S4096x1024, .f32⟩
  | 116 => ⟨S_, .f32⟩
  | 117 => ⟨S1024, .f32⟩
  | 118 => ⟨S1x1024, .f32⟩
  | 119 => ⟨S4096x1024, .f32⟩
  | 120 => ⟨S4096x1024, .f32⟩
  | 121 => ⟨S_, .f32⟩
  | 122 => ⟨S1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S_, .f32⟩
  | 32 => ⟨S1024, .f32⟩
  | 33 => ⟨S_, .f32⟩
  | 34 => ⟨S1024, .f32⟩
  | 35 => ⟨S1024, .f32⟩
  | 36 => ⟨S1x1024, .f32⟩
  | 37 => ⟨S1x1024, .f32⟩
  | 38 => ⟨S1x1024, .f32⟩
  | 39 => ⟨S_, .f32⟩
  | 40 => ⟨S5x1024, .f32⟩
  | 41 => ⟨S8x1024, .f32⟩
  | 42 => ⟨S4096x1024, .bf16⟩
  | 43 => ⟨S4096x4096, .bf16⟩
  | 44 => ⟨S4096x1024, .bf16⟩
  | 45 => ⟨S4096x4096, .bf16⟩
  | 46 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_cst_15 : Ref sig .tc := ⟨.hbm, 75, rfl⟩
abbrev main_cst_16 : Ref sig .tc := ⟨.hbm, 76, rfl⟩
abbrev main_v51 : Ref sig .tc := ⟨.hbm, 77, rfl⟩
abbrev main_v52 : Ref sig .tc := ⟨.hbm, 78, rfl⟩
abbrev main_cst_17 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_18 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_19 : Ref sig .tc := ⟨.hbm, 90, rfl⟩
abbrev main_v62 : Ref sig .tc := ⟨.hbm, 91, rfl⟩
abbrev main_v63 : Ref sig .tc := ⟨.hbm, 92, rfl⟩
abbrev main_cst_20 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_21 : Ref sig .tc := ⟨.hbm, 99, rfl⟩
abbrev main_v69 : Ref sig .tc := ⟨.hbm, 100, rfl⟩
abbrev main_v70 : Ref sig .tc := ⟨.hbm, 101, rfl⟩
abbrev main_cst_22 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_23 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_24 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_25 : Ref sig .tc := ⟨.hbm, 121, rfl⟩
abbrev main_v87 : Ref sig .tc := ⟨.hbm, 122, rfl⟩
abbrev main_v88 : Ref sig .tc := ⟨.hbm, 123, rfl⟩
abbrev main_cst_26 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_27 : Ref sig .tc := ⟨.hbm, 130, rfl⟩
abbrev main_v94 : Ref sig .tc := ⟨.hbm, 131, rfl⟩
abbrev main_v95 : Ref sig .tc := ⟨.hbm, 132, rfl⟩
abbrev main_cst_28 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_29 : Ref sig .tc := ⟨.hbm, 141, rfl⟩
abbrev main_v103 : Ref sig .tc := ⟨.hbm, 142, rfl⟩
abbrev main_v104 : Ref sig .tc := ⟨.hbm, 143, rfl⟩
abbrev main_cst_30 : Ref sig .tc := ⟨.hbm, 144, rfl⟩
abbrev main_v105 : Ref sig .tc := ⟨.hbm, 145, rfl⟩
abbrev main_v106 : Ref sig .tc := ⟨.hbm, 146, rfl⟩
abbrev main_cst_31 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_32 : Ref sig .tc := ⟨.hbm, 159, rfl⟩
abbrev main_v118 : Ref sig .tc := ⟨.hbm, 160, rfl⟩
abbrev main_cst_33 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_34 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩

abbrev nD : Nat := 1
abbrev τ : Topo := Topo.v7x

variable {F : FTy → Type} [FloatOps F]
-- ==== Mix.lean ====
abbrev S4096x1024 : Shape := ⟨2, ![4096, 1024]⟩
abbrev S4096x2048 : Shape := ⟨2, ![4096, 2048]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S4x256x4096 : Shape := ⟨3, ![4, 256, 4096]⟩
abbrev S8x1024 : Shape := ⟨2, ![8, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 93
  | .vmem => 37
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S4x256x256, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x4x256, .f32⟩
  | .hbm, ⟨52, _⟩ => ⟨S4x256x4096, .f32⟩
  | .hbm, ⟨53, _⟩ => ⟨S4096x4x256, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S4096x2048, .f32⟩
  | .hbm, ⟨63, _⟩ => ⟨S4096x2048, .f32⟩
  | .hbm, ⟨64, _⟩ => ⟨S_, .f32⟩
  | .hbm, ⟨65, _⟩ => ⟨S4096x2048, .f32⟩
  | .hbm, ⟨66, _⟩ => ⟨S4096x2048, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | .hbm, ⟨74, _⟩ => ⟨S4096x1024, .bf16⟩
  | .hbm, ⟨75, _⟩ => ⟨S4096x1024, .bf16⟩
  | .hbm, ⟨76, _⟩ => ⟨S4096x2048, .bf16⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1024x1024, .bf16⟩
  | .hbm, ⟨82, _⟩ => ⟨S4x256x256, .bf16⟩
  | .hbm, ⟨83, _⟩ => ⟨S1024x1024, .bf16⟩
  | .hbm, ⟨84, _⟩ => ⟨S1024x1024, .bf16⟩
  | .hbm, ⟨85, _⟩ => ⟨S4096x1024, .bf16⟩
  | .hbm, ⟨86, _⟩ => ⟨S4096x2048, .bf16⟩
  | .hbm, ⟨87, _⟩ => ⟨S4096x1024, .bf16⟩
  | .hbm, ⟨88, _⟩ => ⟨S4096x1024, .bf16⟩
  | .hbm, ⟨89, _⟩ => ⟨S4096x1024, .bf16⟩
  | .hbm, ⟨90, _⟩ => ⟨S4096x1024, .bf16⟩
  | .hbm, ⟨91, _⟩ => ⟨S4096x1024, .bf16⟩
  | .hbm, ⟨92, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S4x256x256, .bf16⟩
  | .local _ .vmem, ⟨20, _⟩ => ⟨S1024x1024, .bf16⟩
  | .local _ .vmem, ⟨21, _⟩ => ⟨S1024x1024, .bf16⟩
  | .local _ .vmem, ⟨22, _⟩ => ⟨S256x1024, .bf16⟩
  | .local _ .vmem, ⟨23, _⟩ => ⟨S256x1024, .bf16⟩
  | .local _ .vmem, ⟨24, _⟩ => ⟨S256x2048, .bf16⟩
  | .local _ .vmem, ⟨25, _⟩ => ⟨S256x2048, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58_0 : Ref sig .tc := ⟨.hbm, 85, rfl⟩
abbrev main_v58_1 : Ref sig .tc := ⟨.hbm, 86, rfl⟩
abbrev main_v58_2 : Ref sig .tc := ⟨.hbm, 87, rfl⟩
abbrev main_v58_3 : Ref sig .tc := ⟨.hbm, 88, rfl⟩
abbrev main_v58_4 : Ref sig .tc := ⟨.hbm, 89, rfl⟩
abbrev main_v58_5 : Ref sig .tc := ⟨.hbm, 90, rfl⟩
abbrev main_v58_6 : Ref sig .tc := ⟨.hbm, 91, rfl⟩
abbrev main_v58_7 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MixRefIdeal.lean ====
abbrev S4096x1024 : Shape := ⟨2, ![4096, 1024]⟩
abbrev S4096x2048 : Shape := ⟨2, ![4096, 2048]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S4x256x4096 : Shape := ⟨3, ![4, 256, 4096]⟩
abbrev S4x4096x256 : Shape := ⟨3, ![4, 4096, 256]⟩
abbrev S3x1024 : Shape := ⟨2, ![3, 1024]⟩
abbrev S8x1024 : Shape := ⟨2, ![8, 1024]⟩

abbrev nBuf : Space → Nat
  | .hbm => 220
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x2048, .f32⟩
  | 4 => ⟨S1024, .f32⟩
  | 5 => ⟨S1024, .f32⟩
  | 6 => ⟨S1024x1024, .f32⟩
  | 7 => ⟨S4x256x256, .f32⟩
  | 8 => ⟨S1024, .f32⟩
  | 9 => ⟨S1024x1024, .f32⟩
  | 10 => ⟨S1024x1024, .f32⟩
  | 11 => ⟨S1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S1x1024, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x4x256, .f32⟩
  | 63 => ⟨S4x256x4096, .f32⟩
  | 64 => ⟨S4096x4x256, .f32⟩
  | 65 => ⟨S4096x1024, .f32⟩
  | 66 => ⟨S1x1024, .f32⟩
  | 67 => ⟨S4096x1024, .f32⟩
  | 68 => ⟨S4096x1024, .f32⟩
  | 69 => ⟨S4096x1024, .f32⟩
  | 70 => ⟨S4096x2048, .f32⟩
  | 71 => ⟨S4096x2048, .f32⟩
  | 72 => ⟨S_, .f32⟩
  | 73 => ⟨S4096x2048, .f32⟩
  | 74 => ⟨S4096x2048, .f32⟩
  | 75 => ⟨S_, .f32⟩
  | 76 => ⟨S4096x2048, .f32⟩
  | 77 => ⟨S4096x2048, .f32⟩
  | 78 => ⟨S_, .f32⟩
  | 79 => ⟨S4096x2048, .f32⟩
  | 80 => ⟨S4096x2048, .f32⟩
  | 81 => ⟨S4096x2048, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S4096, .f32⟩
  | 91 => ⟨S4096x1, .f32⟩
  | 92 => ⟨S_, .f32⟩
  | 93 => ⟨S4096x1, .f32⟩
  | 94 => ⟨S4096x1, .f32⟩
  | 95 => ⟨S_, .f32⟩
  | 96 => ⟨S4096x1, .f32⟩
  | 97 => ⟨S4096x1, .f32⟩
  | 98 => ⟨S4096x1, .f32⟩
  | 99 => ⟨S4096x1, .f32⟩
  | 100 => ⟨S_, .f32⟩
  | 101 => ⟨S4096x1, .f32⟩
  | 102 => ⟨S4096x1, .f32⟩
  | 103 => ⟨S4096x1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S_, .f32⟩
  | 110 => ⟨S1024, .f32⟩
  | 111 => ⟨S1x1024, .f32⟩
  | 112 => ⟨S4096x1024, .f32⟩
  | 113 => ⟨S4096x1024, .f32⟩
  | 114 => ⟨S_, .f32⟩
  | 115 => ⟨S1024, .f32⟩
  | 116 => ⟨S4096x1024, .f32⟩
  | 117 => ⟨S_, .f32⟩
  | 118 => ⟨S4096, .f32⟩
  | 119 => ⟨S4096x1, .f32⟩
  | 120 => ⟨S4096x1024, .f32⟩
  | 121 => ⟨S4096x1024, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x2048, .f32⟩
  | 11 => ⟨S4096x2048, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S1024, .f32⟩
  | 19 => ⟨S1x1024, .f32⟩
  | 20 => ⟨S_, .f32⟩
  | 21 => ⟨S1024, .f32⟩
  | 22 => ⟨S4096x1024, .f32⟩
  | 23 => ⟨S_, .f32⟩
  | 24 => ⟨S1024, .f32⟩
  | 25 => ⟨S1x1024, .f32⟩
  | 26 => ⟨S4096x1024, .f32⟩
  | 27 => ⟨S4096x1024, .f32⟩
  | 28 => ⟨S_, .f32⟩
  | 29 => ⟨S1024, .f32⟩
  | 30 => ⟨S4096x1024, .f32⟩
  | 31 => ⟨S_, .f32⟩
  | 32 => ⟨S4096, .f32⟩
  | 33 => ⟨S4096x1, .f32⟩
  | 34 => ⟨S4096x1024, .f32⟩
  | 35 => ⟨S4096x1024, .f32⟩
  | 36 => ⟨S4096x1, .f32⟩
  | 37 => ⟨S4096x1024, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096, .f32⟩
  | 46 => ⟨S4096x1024, .f32⟩
  | 47 => ⟨S4096x1024, .f32⟩
  | 48 => ⟨S4096x1024, .f32⟩
  | 49 => ⟨S_, .f32⟩
  | 50 => ⟨S4096, .f32⟩
  | 51 => ⟨S4096x1, .f32⟩
  | 52 => ⟨S4096x1024, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S1024, .f32⟩
  | 65 => ⟨S1x1024, .f32⟩
  | 66 => ⟨S4096x1024, .f32⟩
  | 67 => ⟨S4096x1024, .f32⟩
  | 68 => ⟨S_, .f32⟩
  | 69 => ⟨S1024, .f32⟩
  | 70 => ⟨S4096x4x256, .f32⟩
  | 71 => ⟨S4x256x4096, .f32⟩
  | 72 => ⟨S4x4096x256, .f32⟩
  | 73 => ⟨S4096x4x256, .f32⟩
  | 74 => ⟨S4096x1024, .f32⟩
  | 75 => ⟨S1x1024, .f32⟩
  | 76 => ⟨S1x1024, .f32⟩
  | 77 => ⟨S1x1024, .f32⟩
  | 78 => ⟨S_, .f32⟩
  | 79 => ⟨S1024, .f32⟩
  | 80 => ⟨S1x1024, .f32⟩
  | 81 => ⟨S1x1024, .f32⟩
  | 82 => ⟨S_, .f32⟩
  | 83 => ⟨S3x1024, .f32⟩
  | 84 => ⟨S8x1024, .f32⟩
  | 85 => ⟨S4096x1024, .bf16⟩
  | 86 => ⟨S4096x2048, .bf16⟩
  | 87 => ⟨S4096x1024, .bf16⟩
  | 88 => ⟨S4096x1024, .bf16⟩
  | 89 => ⟨S4096x1024, .bf16⟩
  | 90 => ⟨S4096x1024, .bf16⟩
  | 91 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v29_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v29_1 : Ref sig .tc := ⟨.hbm, 59, rfl⟩
abbrev main_v29_0 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_9 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_14 : Ref sig .tc := ⟨.hbm, 114, rfl⟩
abbrev main_v75 : Ref sig .tc := ⟨.hbm, 115, rfl⟩
abbrev main_v76 : Ref sig .tc := ⟨.hbm, 116, rfl⟩
abbrev main_cst_15 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_16 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_v98 : Ref sig .tc := ⟨.hbm, 144, rfl⟩
abbrev main_cst_18 : Ref sig .tc := ⟨.hbm, 145, rfl⟩
abbrev main_v99 : Ref sig .tc := ⟨.hbm, 146, rfl⟩
abbrev main_v100 : Ref sig .tc := ⟨.hbm, 147, rfl⟩
abbrev main_cst_19 : Ref sig .tc := ⟨.hbm, 148, rfl⟩
abbrev main_v101 : Ref sig .tc := ⟨.hbm, 149, rfl⟩
abbrev main_v102 : Ref sig .tc := ⟨.hbm, 150, rfl⟩
abbrev main_cst_20 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_21 : Ref sig .tc := ⟨.hbm, 156, rfl⟩
abbrev main_v107 : Ref sig .tc := ⟨.hbm, 157, rfl⟩
abbrev main_v108 : Ref sig .tc := ⟨.hbm, 158, rfl⟩
abbrev main_cst_22 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_23 : Ref sig .tc := ⟨.hbm, 166, rfl⟩
abbrev main_v115 : Ref sig .tc := ⟨.hbm, 167, rfl⟩
abbrev main_v116 : Ref sig .tc := ⟨.hbm, 168, rfl⟩
abbrev main_cst_24 : Ref sig .tc := ⟨.hbm, 169, rfl⟩
abbrev main_v117 : Ref sig .tc := ⟨.hbm, 170, rfl⟩
abbrev main_v118 : Ref sig .tc := ⟨.hbm, 171, rfl⟩
abbrev main_cst_25 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_26 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_27 : Ref sig .tc := ⟨.hbm, 182, rfl⟩
abbrev main_v127 : Ref sig .tc := ⟨.hbm, 183, rfl⟩
abbrev main_v128 : Ref sig .tc := ⟨.hbm, 184, rfl⟩
abbrev main_cst_28 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_29 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_30 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_31 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_32 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩

abbrev nD : Nat := 1
abbrev τ : Topo := Topo.v7x

variable {F : FTy → Type} [FloatOps F]
-- ==== Up.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Pool.lean ====
abbrev S4096x1024 : Shape := ⟨2, ![4096, 1024]⟩
abbrev S4x256x256 : Shape := ⟨3, ![4, 256, 256]⟩
abbrev S4096x256 : Shape := ⟨2, ![4096, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x256, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S1x256x256, .f32⟩
  | .local _ .vmem, ⟨5, _⟩ => ⟨S1x256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PoolRefIdeal.lean ====
abbrev S4096x1024 : Shape := ⟨2, ![4096, 1024]⟩
abbrev S_ : Shape := ⟨0, ![]⟩
abbrev S4x256x256 : Shape := ⟨3, ![4, 256, 256]⟩
abbrev S4096x4x256 : Shape := ⟨3, ![4096, 4, 256]⟩
abbrev S4x256x4096 : Shape := ⟨3, ![4, 256, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4x256x256, .f32⟩
  | .hbm, ⟨6, _⟩ => ⟨S4096x4x256, .f32⟩
  | .hbm, ⟨7, _⟩ => ⟨S4x256x4096, .f32⟩
  | .hbm, ⟨8, _⟩ => ⟨S4096x4x256, .f32⟩
  | .hbm, ⟨9, _⟩ => ⟨S4096x1024, .f32⟩
  | .hbm, ⟨10, _⟩ => ⟨S4096x4x256, .f32⟩
  | .hbm, ⟨11, _⟩ => ⟨S4x256x4096, .f32⟩
  | .hbm, ⟨12, _⟩ => ⟨S4x256x256, .f32⟩
  | .hbm, ⟨13, _⟩ => ⟨S4x256x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proj.lean ====
abbrev S4096x1024 : Shape := ⟨2, ![4096, 1024]⟩
abbrev S4096x5120 : Shape := ⟨2, ![4096, 5120]⟩
abbrev S4x1024x1280 : Shape := ⟨3, ![4, 1024, 1280]⟩
abbrev S2048x1024 : Shape := ⟨2, ![2048, 1024]⟩
abbrev S2048x1280 : Shape := ⟨2, ![2048, 1280]⟩
abbrev S1x1024x1280 : Shape := ⟨3, ![1, 1024, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S4x1024x1280, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1x1024x1280, .f32⟩
  | .local _ .vmem, ⟨5, _⟩ => ⟨S1x1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩
abbrev S1024x4x1280 : Shape := ⟨3, ![1024, 4, 1280]⟩
abbrev S4x1024x1280 : Shape := ⟨3, ![4, 1024, 1280]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S4096x1024, .f32⟩
  | .hbm, ⟨3, _⟩ => ⟨S4096x5120, .f32⟩
  | .hbm, ⟨4, _⟩ => ⟨S_, .f32⟩
  | .hbm, ⟨5, _⟩ => ⟨S1024x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S1024x4x1280, .f32⟩
  | .hbm, ⟨10, _⟩ => ⟨S4x1024x1280, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== In.lean ====
abbrev S4096x1024 : Shape := ⟨2, ![4096, 1024]⟩
abbrev S1024 : Shape := ⟨1, ![1024]⟩
abbrev S1024x5120 : Shape := ⟨2, ![1024, 5120]⟩
abbrev S1024x4x1280 : Shape := ⟨3, ![1024, 4, 1280]⟩
abbrev S4x1024x1280 : Shape := ⟨3, ![4, 1024, 1280]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1024x256 : Shape := ⟨3, ![1, 1024, 256]⟩
abbrev S1024x256 : Shape := ⟨2, ![1024, 256]⟩
abbrev S512x256 : Shape := ⟨2, ![512, 256]⟩
abbrev S1x1024x768 : Shape := ⟨3, ![1, 1024, 768]⟩
abbrev S1024x768 : Shape := ⟨2, ![1024, 768]⟩
abbrev S512x768 : Shape := ⟨2, ![512, 768]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S1024x4x1280, .f32⟩
  | .hbm, ⟨4, _⟩ => ⟨S4x1024x1280, .f32⟩
  | .hbm, ⟨5, _⟩ => ⟨S4x1024x1280, .bf16⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S4096x2048, .bf16⟩
  | .hbm, ⟨10, _⟩ => ⟨S4096x1024, .f32⟩
  | .hbm, ⟨11, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1280, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x2048, .bf16⟩
  | .local _ .vmem, ⟨13, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InRefIdeal.lean ====
abbrev S4096x1024 : Shape := ⟨2, ![4096, 1024]⟩
abbrev S1024 : Shape := ⟨1, ![1024]⟩
abbrev S1024x5120 : Shape := ⟨2, ![1024, 5120]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5120 : Shape := ⟨2, ![4096, 5120]⟩
abbrev S4096x2048 : Shape := ⟨2, ![4096, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5120, .f32⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x2048, .bf16⟩
  | .hbm, ⟨34, _⟩ => ⟨S4096x1024, .f32⟩
  | .hbm, ⟨35, _⟩ => ⟨S4096x2048, .f32⟩
  | .hbm, ⟨36, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.Weights.Sums.lean ====
/- A sum over tokens taken in consecutive runs of tokens. -/
module

public import Idealize.ShloMosaic.Lib.Pointwise

@[expose] public section

namespace Cert.Weights

/-- A sum over `k * n` tokens is the sum over `k` runs of the sums over their `n` tokens. -/
theorem sum_runs {k n N : ℕ} (hN : N = k * n) (f : Fin N → EReal) :
    ∑ t, f t = ∑ q : Fin k, ∑ s : Fin n, f ⟨q.val * n + s.val, by
      subst hN
      calc q.val * n + s.val < q.val * n + n := Nat.add_lt_add_left s.isLt _
        _ = (q.val + 1) * n := by ring
        _ ≤ k * n := Nat.mul_le_mul_right n q.isLt⟩ := by
  subst hN
  rw [← Fintype.sum_prod_type']
  refine (Fintype.sum_equiv (finProdFinEquiv (m := k) (n := n)) _ _ fun x => congrArg f (Fin.ext ?_)).symm
  simp [finProdFinEquiv, Nat.mul_comm, Nat.add_comm]

/-- An entry of a matrix, by the values of its indices. -/
theorem entry {a b : ℕ} {α : Type} (X : (⟨2, ![a, b]⟩ : Idealize.ShloMosaic.Shape).Idx → α) {i i' : Fin a} {j j' : Fin b}
    (hi : i.val = i'.val) (hj : j.val = j'.val) : X (Idealize.ShloMosaic.ix2 i j) = X (Idealize.ShloMosaic.ix2 i' j') := by
  rw [Fin.ext hi, Fin.ext hj]

end Cert.Weights

end
-- ==== Proof.Weights.Up.lean ====
/- The gradient of the first matrix: what the kernel's array holds, and what the reference computes, are one sum over the
   tokens. -/
module

public import proofs.«01_k».proof.Proof.Weights.Sums
public import proofs.«01_k».proof.Proof.Gen.UpIdeal.Value
public import proofs.«01_k».proof.Proof.Gen.UpRefIdeal.Run
public import Idealize.ShloMosaic.Lib.Pipeline.ValueKit
public import Idealize.ShloMosaic.Lib.Tactic.CleanTypes

@[expose] public section

set_option maxRecDepth 16384

noncomputable section

namespace Cert.Weights.Up

open Idealize.ShloMosaic Idealize.ShloMosaic.TcCoe Cert.UpIdeal Cert.UpIdeal.Gen Cert.UpIdeal.Value

/-- The gradient, in four blocks of columns: entry `(q, i, j)` is the product of column `i` of what the forward pass saved with
    column `1024 q + j` of the cotangent. -/
def grad (a : S4096x1024.Idx → EReal) (b : S4096x4096.Idx → EReal) : S4x1024x1024.Idx → EReal := fun y => ∑ t : Fin 4096,
  a (ix2 t (y 1)) * b (ix2 t ⟨(y 0).val * 1024 + (y 2).val, by
    have h0 : (y 0).val < 4 := (y 0).isLt; have h2 : (y 2).val < 1024 := (y 2).isLt; omega⟩)

/-- One point adds its tokens' products. -/
theorem pay2 (acc : S1x1024x1024.Idx → EReal) (a b : S2048x1024.Idx → EReal) (y : S1x1024x1024.Idx) :
    k0_pay2 (F := Ideal) acc a b y = acc y + ∑ s : Fin 2048, a (ix2 s (y 1)) * b (ix2 s (y 2)) := by
  idx_vars y
  unfold k0_pay2
  pointwise
  obtain rfl : y0 = 0 := Subsingleton.elim _ _
  rfl

theorem pay1 (y : S1x1024x1024.Idx) : k0_pay1 (F := Ideal) y = 0 := by
  idx_vars y
  unfold k0_pay1
  pointwise

theorem idx : ∀ t : Fin cfg0.N, win0_0.index t = ![t.val % 2, 0] ∧ win0_1.index t = ![t.val % 2, t.val / 2] :=
  (by decide +kernel : ∀ t : Fin grid0.N, _)

variable (m : (ℓ : Loc nD τ sig) → Buf (Elt Ideal) ℓ) (c : Dev nD)

theorem iblk0 (t : Fin cfg0.N) (y : S2048x1024.Idx) :
    iblk m c 0 t y = m ((c : Thread nD τ).loc main_arg0) (ix2 ⟨t.val % 2 * 2048 + (y 0).val, by
    have : (y 0).val < 2048 := (y 0).isLt; omega⟩ (y 1)) := by
  blk_ext! [iblk, V, idx t]

theorem iblk1 (t : Fin cfg0.N) (y : S2048x1024.Idx) :
    iblk m c 1 t y = m ((c : Thread nD τ).loc main_arg1) (ix2 ⟨t.val % 2 * 2048 + (y 0).val, by
    have : (y 0).val < 2048 := (y 0).isLt; omega⟩ ⟨t.val / 2 * 1024 + (y 1).val, by
    have : (y 1).val < 1024 := (y 1).isLt; have : t.val < 8 := t.isLt; omega⟩) := by
  blk_ext! [iblk, V, idx t]

/-- The kernel's array is the gradient. -/
theorem kernel : G2 m c = grad (m ((c : Thread nD τ).loc main_arg0)) (m ((c : Thread nD τ).loc main_arg1)) := by
  funext y
  have h0 : (y 0).val < 4 := (y 0).isLt
  have h1 : (y 1).val < 1024 := (y 1).isLt
  have h2 : (y 2).val < 1024 := (y 2).isLt
  have hr : run2Of y = (y 0).val := by
    show 1 * ((y 0).val / 1 - 0) + 1 * ((y 1).val / 1024 - 0) + 1 * ((y 2).val / 1024 - 0) = _
    omega
  have r0 : ∀ r k : ℕ, 2 * r % 2 * 2048 + k = 0 * 2048 + k := by intros; omega
  have r1 : ∀ r k : ℕ, (2 * r + 1) % 2 * 2048 + k = 1 * 2048 + k := by intros; omega
  have c1 : (y 1).val % 1024 = (y 1).val := by omega
  have c2 : 2 * run2Of y / 2 * 1024 + (y 2).val % 1024 = (y 0).val * 1024 + (y 2).val := by rw [hr]; omega
  have c3 : (2 * run2Of y + 1) / 2 * 1024 + (y 2).val % 1024 = (y 0).val * 1024 + (y 2).val := by rw [hr]; omega
  have hlt : 2 * run2Of y + 1 < cfg0.N := lt_of_lt_of_eq (by rw [hr]; omega : 2 * run2Of y + 1 < 8) N_0.symm
  unfold G2
  rw [dif_pos hlt]
  rw [Pipeline.accAt_succ, Pipeline.accAt_zero]
  unfold step2 reset2
  rw [pay2, pay2, pay1, zero_add]
  unfold grad
  rw [sum_runs (show 4096 = 2 * 2048 from rfl), Fin.sum_univ_two]
  refine congrArg₂ (· + ·) ?_ ?_ <;> refine Finset.sum_congr rfl fun s _ => ?_ <;> rw [iblk0, iblk1]
  · exact congrArg₂ (· * ·) (entry _ (r0 _ _) c1) (entry _ (r0 _ _) c2)
  · exact congrArg₂ (· * ·) (entry _ (r1 _ _) c1) (entry _ (r1 _ _) c3)

end Cert.Weights.Up

namespace Cert.Weights.Up

open Idealize.ShloMosaic Cert.UpRefIdeal Cert.UpRefIdeal.Gen

/-- The reference's array is the gradient. -/
theorem reference (a : FVec Ideal S4096x1024 .bf16) (b : FVec Ideal S4096x4096 .bf16) :
    transpose S4x1024x1024 [1, 0, 2] (shapeCast _ (transpose S1024x4096 [1, 0]
      (Host.dotGeneral dot_S4096x4096_S4096x1024_S4096x1024_0_0_1_1_n_n none (extf .f32 b bitsLt_bf16_f32)
        (extf .f32 a bitsLt_bf16_f32)) transposes_S4096x1024_S1024x4096_1_0) shapeCasts_S1024x4096_S1024x4x1024)
      transposes_S1024x4x1024_S4x1024x1024_1_0_2 = grad a b := by
  funext y
  clean_types
  idx_vars y
  pointwise
  exact Finset.sum_congr rfl fun t _ => mul_comm _ _

end Cert.Weights.Up

end
-- ==== Proof.Weights.Down.lean ====
/- The gradient of the second matrix: what the kernel's array holds, and what the reference computes, are one sum over the
   tokens. -/
module

public import proofs.«01_k».proof.Proof.Weights.Sums
public import proofs.«01_k».proof.Proof.Gen.DownIdeal.Value
public import proofs.«01_k».proof.Proof.Gen.DownRefIdeal.Run
public import Idealize.ShloMosaic.Lib.Pipeline.ValueKit
public import Idealize.ShloMosaic.Lib.Tactic.CleanTypes

@[expose] public section

set_option maxRecDepth 16384

noncomputable section

namespace Cert.Weights.Down

open Idealize.ShloMosaic Idealize.ShloMosaic.TcCoe Cert.DownIdeal Cert.DownIdeal.Gen Cert.DownIdeal.Value

/-- The gradient: entry `(i, j)` is the product of column `i` of what the forward pass saved with column `j` of the cotangent. -/
def grad (a : S4096x4096.Idx → EReal) (b : S4096x1024.Idx → EReal) : S4096x1024.Idx → EReal :=
  fun y => ∑ t : Fin 4096, a (ix2 t (y 0)) * b (ix2 t (y 1))

/-- One point adds its tokens' products. -/
theorem pay2 (acc : S1024x1024.Idx → EReal) (a b : S2048x1024.Idx → EReal) (y : S1024x1024.Idx) :
    k0_pay2 (F := Ideal) acc a b y = acc y + ∑ s : Fin 2048, a (ix2 s (y 0)) * b (ix2 s (y 1)) := by
  idx_vars y
  unfold k0_pay2
  pointwise

theorem pay1 (y : S1024x1024.Idx) : k0_pay1 (F := Ideal) y = 0 := by
  idx_vars y
  unfold k0_pay1
  pointwise

theorem idx : ∀ t : Fin cfg0.N, win0_0.index t = ![t.val % 2, t.val / 2] ∧ win0_1.index t = ![t.val % 2, 0] :=
  (by decide +kernel : ∀ t : Fin grid0.N, _)

variable (m : (ℓ : Loc nD τ sig) → Buf (Elt Ideal) ℓ) (c : Dev nD)

theorem iblk0 (t : Fin cfg0.N) (y : S2048x1024.Idx) :
    iblk m c 0 t y = m ((c : Thread nD τ).loc main_arg0) (ix2 ⟨t.val % 2 * 2048 + (y 0).val, by
    have : (y 0).val < 2048 := (y 0).isLt; omega⟩ ⟨t.val / 2 * 1024 + (y 1).val, by
    have : (y 1).val < 1024 := (y 1).isLt; have : t.val < 8 := t.isLt; omega⟩) := by
  blk_ext! [iblk, V, idx t]

theorem iblk1 (t : Fin cfg0.N) (y : S2048x1024.Idx) :
    iblk m c 1 t y = m ((c : Thread nD τ).loc main_arg1) (ix2 ⟨t.val % 2 * 2048 + (y 0).val, by
    have : (y 0).val < 2048 := (y 0).isLt; omega⟩ (y 1)) := by
  blk_ext! [iblk, V, idx t]

/-- The kernel's array is the gradient. -/
theorem kernel : G2 m c = grad (m ((c : Thread nD τ).loc main_arg0)) (m ((c : Thread nD τ).loc main_arg1)) := by
  funext y
  have h0 : (y 0).val < 4096 := (y 0).isLt
  have h1 : (y 1).val < 1024 := (y 1).isLt
  have hr : run2Of y = (y 0).val / 1024 := by
    show 1 * ((y 0).val / 1024 - 0) + 1 * ((y 1).val / 1024 - 0) = _
    omega
  have r0 : ∀ r k : ℕ, 2 * r % 2 * 2048 + k = 0 * 2048 + k := by intros; omega
  have r1 : ∀ r k : ℕ, (2 * r + 1) % 2 * 2048 + k = 1 * 2048 + k := by intros; omega
  have c1 : (y 1).val % 1024 = (y 1).val := by omega
  have c2 : 2 * run2Of y / 2 * 1024 + (y 0).val % 1024 = (y 0).val := by rw [hr]; omega
  have c3 : (2 * run2Of y + 1) / 2 * 1024 + (y 0).val % 1024 = (y 0).val := by rw [hr]; omega
  have hlt : 2 * run2Of y + 1 < cfg0.N := lt_of_lt_of_eq (by rw [hr]; omega : 2 * run2Of y + 1 < 8) N_0.symm
  unfold G2
  rw [dif_pos hlt]
  rw [Pipeline.accAt_succ, Pipeline.accAt_zero]
  unfold step2 reset2
  rw [pay2, pay2, pay1, zero_add]
  unfold grad
  rw [sum_runs (show 4096 = 2 * 2048 from rfl), Fin.sum_univ_two]
  refine congrArg₂ (· + ·) ?_ ?_ <;> refine Finset.sum_congr rfl fun s _ => ?_ <;> rw [iblk0, iblk1]
  · exact congrArg₂ (· * ·) (entry _ (r0 _ _) c2) (entry _ (r0 _ _) c1)
  · exact congrArg₂ (· * ·) (entry _ (r1 _ _) c3) (entry _ (r1 _ _) c1)

end Cert.Weights.Down

namespace Cert.Weights.Down

open Idealize.ShloMosaic Cert.DownRefIdeal Cert.DownRefIdeal.Gen

/-- The reference's array is the gradient. -/
theorem reference (a : FVec Ideal S4096x4096 .bf16) (b : FVec Ideal S4096x1024 .bf16) :
    transpose S4096x1024 [1, 0] (Host.dotGeneral dot_S4096x1024_S4096x4096_S1024x4096_0_0_1_1_n_n none
      (extf .f32 b bitsLt_bf16_f32) (extf .f32 a bitsLt_bf16_f32)) transposes_S1024x4096_S4096x1024_1_0 = grad a b := by
  funext y
  clean_types
  idx_vars y
  pointwise
  exact Finset.sum_congr rfl fun t _ => mul_comm _ _

end Cert.Weights.Down

end
-- ==== Proof.Weights.Out.lean ====
/- The gradient of a square matrix: what the kernel's array holds, and what the reference computes, are one sum over the
   tokens. -/
module

public import proofs.«01_k».proof.Proof.Weights.Sums
public import proofs.«01_k».proof.Proof.Gen.OutIdeal.Value
public import proofs.«01_k».proof.Proof.Gen.OutRefIdeal.Run
public import Idealize.ShloMosaic.Lib.Pipeline.ValueKit
public import Idealize.ShloMosaic.Lib.Tactic.CleanTypes

@[expose] public section

set_option maxRecDepth 16384

noncomputable section

namespace Cert.Weights.Out

open Idealize.ShloMosaic Idealize.ShloMosaic.TcCoe Cert.OutIdeal Cert.OutIdeal.Gen Cert.OutIdeal.Value

/-- The gradient: entry `(i, j)` is the product of column `i` of what the forward pass saved with column `j` of the cotangent. -/
def grad (a b : S4096x1024.Idx → EReal) : S1024x1024.Idx → EReal :=
  fun y => ∑ t : Fin 4096, a (ix2 t (y 0)) * b (ix2 t (y 1))

/-- One point adds its tokens' products. -/
theorem pay2 (acc a b : S1024x1024.Idx → EReal) (y : S1024x1024.Idx) :
    k0_pay2 (F := Ideal) acc a b y = acc y + ∑ s : Fin 1024, a (ix2 s (y 0)) * b (ix2 s (y 1)) := by
  idx_vars y
  unfold k0_pay2
  pointwise

theorem pay1 (y : S1024x1024.Idx) : k0_pay1 (F := Ideal) y = 0 := by
  idx_vars y
  unfold k0_pay1
  pointwise

theorem idx : ∀ t : Fin cfg0.N, win0_0.index t = ![t.val, 0] ∧ win0_1.index t = ![t.val, 0] :=
  (by decide +kernel : ∀ t : Fin grid0.N, _)

variable (m : (ℓ : Loc nD τ sig) → Buf (Elt Ideal) ℓ) (c : Dev nD)

theorem iblk0 (t : Fin cfg0.N) (y : S1024x1024.Idx) :
    iblk m c 0 t y = m ((c : Thread nD τ).loc main_arg0) (ix2 ⟨t.val * 1024 + (y 0).val, by
    have : (y 0).val < 1024 := (y 0).isLt; have : t.val < 4 := t.isLt; omega⟩ (y 1)) := by
  blk_ext! [iblk, V, idx t]

theorem iblk1 (t : Fin cfg0.N) (y : S1024x1024.Idx) :
    iblk m c 1 t y = m ((c : Thread nD τ).loc main_arg1) (ix2 ⟨t.val * 1024 + (y 0).val, by
    have : (y 0).val < 1024 := (y 0).isLt; have : t.val < 4 := t.isLt; omega⟩ (y 1)) := by
  blk_ext! [iblk, V, idx t]

/-- The kernel's array is the gradient. -/
theorem kernel : G2 m c = grad (m ((c : Thread nD τ).loc main_arg0)) (m ((c : Thread nD τ).loc main_arg1)) := by
  funext y
  have h0 : (y 0).val < 1024 := (y 0).isLt
  have h1 : (y 1).val < 1024 := (y 1).isLt
  have hr : run2Of y = 0 := by
    show 1 * ((y 0).val / 1024 - 0) + 1 * ((y 1).val / 1024 - 0) = _
    omega
  have r : ∀ q s : ℕ, (4 * run2Of y + q) * 1024 + s = q * 1024 + s := by intros; rw [hr]; omega
  have c0 : (y 0).val % 1024 = (y 0).val := by omega
  have c1 : (y 1).val % 1024 = (y 1).val := by omega
  have hlt : 4 * run2Of y + 3 < cfg0.N := lt_of_lt_of_eq (by rw [hr]; omega : 4 * run2Of y + 3 < 4) N_0.symm
  unfold G2
  rw [dif_pos hlt]
  rw [Pipeline.accAt_succ, Pipeline.accAt_succ, Pipeline.accAt_succ, Pipeline.accAt_zero]
  unfold step2 reset2
  rw [pay2, pay2, pay2, pay2, pay1, zero_add]
  unfold grad
  rw [sum_runs (show 4096 = 4 * 1024 from rfl), Fin.sum_univ_four]
  refine congrArg₂ (· + ·) (congrArg₂ (· + ·) (congrArg₂ (· + ·) ?_ ?_) ?_) ?_ <;>
    refine Finset.sum_congr rfl fun s _ => ?_ <;> rw [iblk0, iblk1]
  · exact congrArg₂ (· * ·) (entry _ (r 0 _) c0) (entry _ (r 0 _) c1)
  · exact congrArg₂ (· * ·) (entry _ (r 1 _) c0) (entry _ (r 1 _) c1)
  · exact congrArg₂ (· * ·) (entry _ (r 2 _) c0) (entry _ (r 2 _) c1)
  · exact congrArg₂ (· * ·) (entry _ (r 3 _) c0) (entry _ (r 3 _) c1)

end Cert.Weights.Out

namespace Cert.Weights.Out

open Idealize.ShloMosaic Cert.OutRefIdeal Cert.OutRefIdeal.Gen

/-- The reference's array is the gradient. -/
theorem reference (a b : FVec Ideal S4096x1024 .bf16) :
    transpose S1024x1024 [1, 0] (Host.dotGeneral dot_S4096x1024_S4096x1024_S1024x1024_0_0_1_1_n_n none
      (extf .f32 b bitsLt_bf16_f32) (extf .f32 a bitsLt_bf16_f32)) transposes_S1024x1024_S1024x1024_1_0 = grad a b := by
  funext y
  clean_types
  idx_vars y
  pointwise
  exact Finset.sum_congr rfl fun t _ => mul_comm _ _

end Cert.Weights.Out

end
-- ==== Proof.Weights.Pool.lean ====
/- The gradient of the pooling groups' matrices: what the kernel's array holds, and what the reference computes, are one sum
   over the tokens. -/
module

public import proofs.«01_k».proof.Proof.Weights.Sums
public import proofs.«01_k».proof.Proof.Gen.PoolIdeal.Value
public import proofs.«01_k».proof.Proof.Gen.PoolRefIdeal.Run
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Weights.Pool

open Idealize.ShloMosaic Idealize.ShloMosaic.TcCoe Cert.PoolIdeal Cert.PoolIdeal.Gen Cert.PoolIdeal.Value

/-- The gradient: entry `(g, i, j)` is the product of column `i` of group `g`'s pooled values with column `j` of the group's
    cotangent. -/
def grad (a b : S4096x1024.Idx → EReal) : S4x256x256.Idx → EReal := fun y => ∑ t : Fin 4096,
  a (ix2 t ⟨(y 0).val * 256 + (y 1).val, by have h0 : (y 0).val < 4 := (y 0).isLt; have h1 : (y 1).val < 256 := (y 1).isLt; omega⟩)
    * b (ix2 t ⟨(y 0).val * 256 + (y 2).val, by have h0 : (y 0).val < 4 := (y 0).isLt; have h2 : (y 2).val < 256 := (y 2).isLt; omega⟩)

/-- One point adds its tokens' products. -/
theorem pay2 (acc : S1x256x256.Idx → EReal) (a b : S4096x256.Idx → EReal) (y : S1x256x256.Idx) :
    k0_pay2 (F := Ideal) acc a b y = acc y + ∑ s : Fin 4096, a (ix2 s (y 1)) * b (ix2 s (y 2)) := by
  idx_vars y
  unfold k0_pay2
  pointwise
  obtain rfl : y0 = 0 := Subsingleton.elim _ _
  rfl

theorem pay1 (y : S1x256x256.Idx) : k0_pay1 (F := Ideal) y = 0 := by
  idx_vars y
  unfold k0_pay1
  pointwise

theorem idx : ∀ t : Fin cfg0.N, win0_0.index t = ![0, t.val] ∧ win0_1.index t = ![0, t.val] ∧ win0_2.index t = ![t.val, 0, 0] :=
  (by decide +kernel : ∀ t : Fin grid0.N, _)

variable (m : (ℓ : Loc nD τ sig) → Buf (Elt Ideal) ℓ) (c : Dev nD)

theorem iblk0 (t : Fin cfg0.N) (y : S4096x256.Idx) :
    iblk m c 0 t y = m ((c : Thread nD τ).loc main_arg0) (ix2 (y 0) ⟨t.val * 256 + (y 1).val, by
    have : (y 1).val < 256 := (y 1).isLt; have : t.val < 4 := t.isLt; omega⟩) := by
  blk_ext! [iblk, V, idx t]

theorem iblk1 (t : Fin cfg0.N) (y : S4096x256.Idx) :
    iblk m c 1 t y = m ((c : Thread nD τ).loc main_arg1) (ix2 (y 0) ⟨t.val * 256 + (y 1).val, by
    have : (y 1).val < 256 := (y 1).isLt; have : t.val < 4 := t.isLt; omega⟩) := by
  blk_ext! [iblk, V, idx t]

theorem hz2 : (![0, 0] : Fin 2 → Nat) = fun _ => 0 := funext fun a => by fin_cases a <;> rfl
theorem hz3 : (![0, 0, 0] : Fin 3 → Nat) = fun _ => 0 := funext fun a => by fin_cases a <;> rfl

/-- What a point leaves in the output's buffer: a zero block, and its products added to it. -/
theorem out (i : grid0.Coords) (a2 : Memref sig .tc .vmem S4096x256 .bf16) (h2 : a2.IsWhole)
    (a3 : Memref sig .tc .vmem S4096x256 .bf16) (h3 : a3.IsWhole) (a4 : Memref sig .tc .vmem S1x256x256 .f32) (h4 : a4.IsWhole)
    (hc : cond0_0 i) (x0 x1 : Vec Ideal S4096x256 .bf16) :
    out0_A_2 c i a2 h2 a3 h3 a4 h4 hc x0 x1 = k0_pay2 (k0_pay1 (F := Ideal)) x0 x1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x256x256) hz3, View.readCov_unit_zero (S := S1x256x256) _ hz3]
  simp only [View.readAt_eq_ld, h2.read_unread, h3.read_unread, View.ld_unit_zero (S := S4096x256) hz2, shapeCast_self]

/-- The kernel's array is the gradient. -/
theorem kernel : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  rw [out, pay2, pay1, zero_add]
  have h0 : (y 0).val < 1 := (y 0).isLt
  have e0 : ((win0_2.blk t).view.emb y 0).val = t.val := by blk_simp; simp [idx t]
  have e1 : ((win0_2.blk t).view.emb y 1).val = (y 1).val := by blk_simp; simp [idx t]
  have e2 : ((win0_2.blk t).view.emb y 2).val = (y 2).val := by blk_simp; simp [idx t]
  have c1 : t.val * 256 + (y 1).val = ((win0_2.blk t).view.emb y 0).val * 256 + ((win0_2.blk t).view.emb y 1).val := by rw [e0, e1]
  have c2 : t.val * 256 + (y 2).val = ((win0_2.blk t).view.emb y 0).val * 256 + ((win0_2.blk t).view.emb y 2).val := by rw [e0, e2]
  exact Finset.sum_congr (M := EReal) rfl fun s _ => congrArg₂ (fun p q : EReal => p * q)
    ((iblk0 m c t _).trans (entry _ rfl c1)) ((iblk1 m c t _).trans (entry _ rfl c2))

end Cert.Weights.Pool

namespace Cert.Weights.Pool

open Idealize.ShloMosaic Cert.PoolRefIdeal Cert.PoolRefIdeal.Gen

/-- The reference's array is the gradient. -/
theorem reference (a b : FVec Ideal S4096x1024 .bf16) :
    transpose S4x256x256 [0, 2, 1] (Host.dotGeneral dot_S4x256x4096_S4096x4x256_S4x256x256_2_0_1_2_0_1 none (transpose S4x256x4096 [1, 2, 0] (shapeCast _ (extf .f32 b bitsLt_bf16_f32) shapeCasts_S4096x1024_S4096x4x256) transposes_S4096x4x256_S4x256x4096_1_2_0) (shapeCast _ (extf .f32 a bitsLt_bf16_f32) shapeCasts_S4096x1024_S4096x4x256)) transposes_S4x256x256_S4x256x256_0_2_1 = grad a b := by
  funext y
  clean_types
  idx_vars y
  pointwise
  exact Finset.sum_congr rfl fun t _ => mul_comm _ _

end Cert.Weights.Pool

end
-- ==== Proof.Weights.Proj.lean ====
/- The gradient of the input matrix: what the kernel's array holds, and what the reference computes, are one sum over the
   tokens. -/
module

public import proofs.«01_k».proof.Proof.Weights.Sums
public import proofs.«01_k».proof.Proof.Gen.ProjIdeal.Value
public import proofs.«01_k».proof.Proof.Gen.ProjRefIdeal.Run
public import Idealize.ShloMosaic.Lib.Pipeline.ValueKit
public import Idealize.ShloMosaic.Lib.Tactic.CleanTypes

@[expose] public section

set_option maxRecDepth 16384

noncomputable section

namespace Cert.Weights.Proj

open Idealize.ShloMosaic Idealize.ShloMosaic.TcCoe Cert.ProjIdeal Cert.ProjIdeal.Gen Cert.ProjIdeal.Value

/-- The gradient, in four blocks of columns: entry `(q, i, j)` is the product of column `i` of what the forward pass saved with
    column `1280 q + j` of the cotangent. -/
def grad (a : S4096x1024.Idx → EReal) (b : S4096x5120.Idx → EReal) : S4x1024x1280.Idx → EReal := fun y => ∑ t : Fin 4096,
  a (ix2 t (y 1)) * b (ix2 t ⟨(y 0).val * 1280 + (y 2).val, by
    have h0 : (y 0).val < 4 := (y 0).isLt; have h2 : (y 2).val < 1280 := (y 2).isLt; omega⟩)

/-- One point adds its tokens' products. -/
theorem pay2 (acc : S1x1024x1280.Idx → EReal) (a : S2048x1024.Idx → EReal) (b : S2048x1280.Idx → EReal) (y : S1x1024x1280.Idx) :
    k0_pay2 (F := Ideal) acc a b y = acc y + ∑ s : Fin 2048, a (ix2 s (y 1)) * b (ix2 s (y 2)) := by
  idx_vars y
  unfold k0_pay2
  pointwise
  obtain rfl : y0 = 0 := Subsingleton.elim _ _
  rfl

theorem pay1 (y : S1x1024x1280.Idx) : k0_pay1 (F := Ideal) y = 0 := by
  idx_vars y
  unfold k0_pay1
  pointwise

theorem idx : ∀ t : Fin cfg0.N, win0_0.index t = ![t.val % 2, 0] ∧ win0_1.index t = ![t.val % 2, t.val / 2] :=
  (by decide +kernel : ∀ t : Fin grid0.N, _)

variable (m : (ℓ : Loc nD τ sig) → Buf (Elt Ideal) ℓ) (c : Dev nD)

theorem iblk0 (t : Fin cfg0.N) (y : S2048x1024.Idx) :
    iblk m c 0 t y = m ((c : Thread nD τ).loc main_arg0) (ix2 ⟨t.val % 2 * 2048 + (y 0).val, by
    have : (y 0).val < 2048 := (y 0).isLt; omega⟩ (y 1)) := by
  blk_ext! [iblk, V, idx t]

theorem iblk1 (t : Fin cfg0.N) (y : S2048x1280.Idx) :
    iblk m c 1 t y = m ((c : Thread nD τ).loc main_arg1) (ix2 ⟨t.val % 2 * 2048 + (y 0).val, by
    have : (y 0).val < 2048 := (y 0).isLt; omega⟩ ⟨t.val / 2 * 1280 + (y 1).val, by
    have : (y 1).val < 1280 := (y 1).isLt; have : t.val < 8 := t.isLt; omega⟩) := by
  blk_ext! [iblk, V, idx t]

/-- The kernel's array is the gradient. -/
theorem kernel : G2 m c = grad (m ((c : Thread nD τ).loc main_arg0)) (m ((c : Thread nD τ).loc main_arg1)) := by
  funext y
  have h0 : (y 0).val < 4 := (y 0).isLt
  have h1 : (y 1).val < 1024 := (y 1).isLt
  have h2 : (y 2).val < 1280 := (y 2).isLt
  have hr : run2Of y = (y 0).val := by
    show 1 * ((y 0).val / 1 - 0) + 1 * ((y 1).val / 1024 - 0) + 1 * ((y 2).val / 1280 - 0) = _
    omega
  have r0 : ∀ r k : ℕ, 2 * r % 2 * 2048 + k = 0 * 2048 + k := by intros; omega
  have r1 : ∀ r k : ℕ, (2 * r + 1) % 2 * 2048 + k = 1 * 2048 + k := by intros; omega
  have c1 : (y 1).val % 1024 = (y 1).val := by omega
  have c2 : 2 * run2Of y / 2 * 1280 + (y 2).val % 1280 = (y 0).val * 1280 + (y 2).val := by rw [hr]; omega
  have c3 : (2 * run2Of y + 1) / 2 * 1280 + (y 2).val % 1280 = (y 0).val * 1280 + (y 2).val := by rw [hr]; omega
  have hlt : 2 * run2Of y + 1 < cfg0.N := lt_of_lt_of_eq (by rw [hr]; omega : 2 * run2Of y + 1 < 8) N_0.symm
  unfold G2
  rw [dif_pos hlt]
  rw [Pipeline.accAt_succ, Pipeline.accAt_zero]
  unfold step2 reset2
  rw [pay2, pay2, pay1, zero_add]
  unfold grad
  rw [sum_runs (show 4096 = 2 * 2048 from rfl), Fin.sum_univ_two]
  refine congrArg₂ (· + ·) ?_ ?_ <;> refine Finset.sum_congr rfl fun s _ => ?_ <;> rw [iblk0, iblk1]
  · exact congrArg₂ (· * ·) (entry _ (r0 _ _) c1) (entry _ (r0 _ _) c2)
  · exact congrArg₂ (· * ·) (entry _ (r1 _ _) c1) (entry _ (r1 _ _) c3)

end Cert.Weights.Proj

namespace Cert.Weights.Proj

open Idealize.ShloMosaic Cert.ProjRefIdeal Cert.ProjRefIdeal.Gen

/-- The reference's array is the gradient. -/
theorem reference (a : FVec Ideal S4096x1024 .bf16) (b : FVec Ideal S4096x5120 .bf16) :
    transpose S4x1024x1280 [1, 0, 2] (shapeCast _ (transpose S1024x5120 [1, 0]
      (Host.dotGeneral dot_S4096x5120_S4096x1024_S5120x1024_0_0_1_1_n_n none (extf .f32 b bitsLt_bf16_f32)
        (extf .f32 a bitsLt_bf16_f32)) transposes_S5120x1024_S1024x5120_1_0) shapeCasts_S1024x5120_S1024x4x1280)
      transposes_S1024x4x1280_S4x1024x1280_1_0_2 = grad a b := by
  funext y
  clean_types
  idx_vars y
  pointwise
  exact Finset.sum_congr rfl fun t _ => mul_comm _ _

end Cert.Weights.Proj

end
-- ==== Proof.Weights.Claims.lean ====
/- The claims about the five products that give the weights' gradients. -/
module

public import proofs.«01_k».proof.Defs
public import proofs.«01_k».proof.Proof.Weights.Up
public import proofs.«01_k».proof.Proof.Weights.Down
public import proofs.«01_k».proof.Proof.Weights.Out
public import proofs.«01_k».proof.Proof.Weights.Pool
public import proofs.«01_k».proof.Proof.Weights.Proj
public import Idealize.ShloMosaic.Adequacy
public import Idealize.ShloMosaic.Init
public import Idealize.ShloMosaic.Lib.Claim

@[expose] public section

noncomputable section

open Idealize.ShloMosaic Idealize.SL.Sem

namespace Cert.Weights.Up

/-- Over the extended reals the kernel's gradient of the first matrix is the reference's. -/
theorem algebraic : Cert.algebraic_UpIdeal_UpRefIdeal (hUpIdeal := Cert.UpIdeal.Gen.facts) (hUpRefIdeal := Cert.UpRefIdeal.Gen.facts) := by
  pair_intro
  · run_from Cert.UpIdeal.Value.run m g
  · run_from Cert.UpRefIdeal.Value.run m' g'
    exact (reference _ _).trans (kernel m c).symm

/-- The reference's frame: its run read at the arguments; it has no semaphore. -/
theorem frame_ri : Cert.quiescent_UpRefIdeal (hUpRefIdeal := Cert.UpRefIdeal.Gen.facts) := fun m ρ _ =>
  (θ_run Cert.UpRefIdeal.defs _ _).mono (fun r h => ⟨fun c => (h c).2, sem_eq_zero_of_no_sems (by decide) r.2⟩)
    (Cert.UpRefIdeal.Value.run (F := Ideal) m ρ)

end Cert.Weights.Up

namespace Cert.Weights.Down

/-- Over the extended reals the kernel's gradient of the second matrix is the reference's. -/
theorem algebraic : Cert.algebraic_DownIdeal_DownRefIdeal (hDownIdeal := Cert.DownIdeal.Gen.facts) (hDownRefIdeal := Cert.DownRefIdeal.Gen.facts) := by
  pair_intro
  · run_from Cert.DownIdeal.Value.run m g
  · run_from Cert.DownRefIdeal.Value.run m' g'
    exact (reference _ _).trans (kernel m c).symm

/-- The reference's frame: its run read at the arguments; it has no semaphore. -/
theorem frame_ri : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run (F := Ideal) m ρ)

end Cert.Weights.Down

namespace Cert.Weights.Out

/-- Over the extended reals the kernel's gradient of the square matrices is the reference's. -/
theorem algebraic : Cert.algebraic_OutIdeal_OutRefIdeal (hOutIdeal := Cert.OutIdeal.Gen.facts) (hOutRefIdeal := Cert.OutRefIdeal.Gen.facts) := by
  pair_intro
  · run_from Cert.OutIdeal.Value.run m g
  · run_from Cert.OutRefIdeal.Value.run m' g'
    exact (reference _ _).trans (kernel m c).symm

/-- The reference's frame: its run read at the arguments; it has no semaphore. -/
theorem frame_ri : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

end Cert.Weights.Out

namespace Cert.Weights.Pool

/-- Over the extended reals the kernel's gradient of the groups' matrices is the reference's. -/
theorem algebraic : Cert.algebraic_PoolIdeal_PoolRefIdeal (hPoolIdeal := Cert.PoolIdeal.Gen.facts) (hPoolRefIdeal := Cert.PoolRefIdeal.Gen.facts) := by
  pair_intro
  · run_from Cert.PoolIdeal.Value.run_blocks m g
  · run_from Cert.PoolRefIdeal.Value.run m' g'
    exact (reference _ _).trans (kernel m c).symm

/-- The reference's frame: its run read at the arguments; it has no semaphore. -/
theorem frame_ri : Cert.quiescent_PoolRefIdeal (hPoolRefIdeal := Cert.PoolRefIdeal.Gen.facts) := fun m ρ _ =>
  (θ_run Cert.PoolRefIdeal.defs _ _).mono (fun r h => ⟨fun c => (h c).2, sem_eq_zero_of_no_sems (by decide) r.2⟩)
    (Cert.PoolRefIdeal.Value.run (F := Ideal) m ρ)

end Cert.Weights.Pool

namespace Cert.Weights.Proj

/-- Over the extended reals the kernel's gradient of the input matrix is the reference's. -/
theorem algebraic : Cert.algebraic_ProjIdeal_ProjRefIdeal (hProjIdeal := Cert.ProjIdeal.Gen.facts) (hProjRefIdeal := Cert.ProjRefIdeal.Gen.facts) := by
  pair_intro
  · run_from Cert.ProjIdeal.Value.run m g
  · run_from Cert.ProjRefIdeal.Value.run m' g'
    exact (reference _ _).trans (kernel m c).symm

/-- The reference's frame: its run read at the arguments; it has no semaphore. -/
theorem frame_ri : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩)
    (Cert.ProjRefIdeal.Value.run (F := Ideal) m ρ)

end Cert.Weights.Proj

end
-- ==== Proof.Entry.Tile.lean ====
/- The norm and the product at the block's input: what the kernel's body computes of one tile of tokens. -/
module

public import proofs.«01_k».proof.Proof.Gen.InIdeal.Value
public import Idealize.ShloMosaic.Lib.Pipeline.ValueKit
public import Idealize.ShloMosaic.Lib.Pipeline.ReadBack

@[expose] public section

set_option maxRecDepth 16384

noncomputable section

namespace Cert.Entry

open Idealize.ShloMosaic Idealize.ShloMosaic.TcCoe Cert.InIdeal Cert.InIdeal.Gen

/-- A token's normed features. -/
def nrm (x g : Fin 1024 → EReal) (k : Fin 1024) : EReal :=
  x k * Ideal.rsqrt (Ideal.div (∑ j, x j * x j) (Ideal.ofBits .f32 0x44800000#32) + Ideal.ofBits .f32 0x358637BD#32) * g k

/-- A token's product with one column. -/
def prd (x g w : Fin 1024 → EReal) : EReal := ∑ k, nrm x g k * w k

/-- The logistic function. -/
def sgm (e : EReal) : EReal := Ideal.div 1 (1 + Ideal.exp (-e))

variable (x : S512x1024.Idx → EReal) (g : S1x1024.Idx → EReal)

/-- Token `i` of a tile. -/
def tok (i : Fin 512) : Fin 1024 → EReal := fun k => x (ix2 i k)

/-- The gains. -/
def gain (k : Fin 1024) : EReal := g (ix2 0 k)

/-- Column `j` of the matrix, counted through its four blocks of columns. -/
def col (w : S4x1024x1280.Idx → EReal) (j : Fin 5120) (k : Fin 1024) : EReal :=
  w (ix3 ⟨j.val / 1280, by omega⟩ k ⟨j.val % 1280, by omega⟩)

theorem pay2 (y : S512x1024.Idx) : k0_pay2 (F := Ideal) x g y = nrm (tok x (y 0)) (gain g) (y 1) := by
  idx_vars y
  pointwise [k0_pay2]
  rfl

theorem pay3 (w : S1x1024x1024.Idx → EReal) (y : S512x1024.Idx) : k0_pay3 (F := Ideal) x g w y =
    prd (tok x (y 0)) (gain g) (fun k => w (ix3 0 k (y 1))) := by
  idx_vars y
  unfold k0_pay3
  pointwise
  simp only [pay2]
  rfl

theorem pay4 (w : S1x1024x256.Idx → EReal) (v : S1x1024x768.Idx → EReal) (y : S512x1024.Idx) : k0_pay4 (F := Ideal) x g w v y =
    prd (tok x (y 0)) (gain g) (fun k => if h : (y 1).val < 256 then w (ix3 0 k ⟨(y 1).val, h⟩) else v (ix3 0 k ⟨(y 1).val - 256, by have : (y 1).val < 1024 := (y 1).isLt; omega⟩)) := by
  idx_vars y
  unfold k0_pay4
  pointwise
  simp only [pay2]
  by_cases h : y1.val < 256
  · simp only [dif_pos h]; rfl
  · simp only [dif_neg h]; rfl

theorem pay5 (w : S1x1024x256.Idx → EReal) (v : S1x1024x768.Idx → EReal) (y : S512x1024.Idx) : k0_pay5 (F := Ideal) x g w v y =
    sgm (k0_pay4 (F := Ideal) x g w v y) := by
  idx_vars y
  unfold k0_pay5
  pointwise
  rw [zero_sub]
  rfl

theorem pay9 (u : S512x1024.Idx → EReal) (w v : S1x1024x512.Idx → EReal) (y : S512x1024.Idx) : k0_pay9 (F := Ideal) u w v y =
    ∑ k, u (ix2 (y 0) k) * (if h : (y 1).val < 512 then w (ix3 0 k ⟨(y 1).val, h⟩) else v (ix3 0 k ⟨(y 1).val - 512, by have : (y 1).val < 1024 := (y 1).isLt; omega⟩)) := by
  idx_vars y
  unfold k0_pay9
  pointwise
  by_cases h : y1.val < 512
  · simp only [dif_pos h]
  · simp only [dif_neg h]

theorem pay10 (u : S512x1024.Idx → EReal) (w : S1x1024x768.Idx → EReal) (v : S1x1024x256.Idx → EReal) (y : S512x1024.Idx) : k0_pay10 (F := Ideal) u w v y =
    ∑ k, u (ix2 (y 0) k) * (if h : (y 1).val < 768 then w (ix3 0 k ⟨(y 1).val, h⟩) else v (ix3 0 k ⟨(y 1).val - 768, by have : (y 1).val < 1024 := (y 1).isLt; omega⟩)) := by
  idx_vars y
  unfold k0_pay10
  pointwise
  by_cases h : y1.val < 768
  · simp only [dif_pos h]
  · simp only [dif_neg h]

theorem pay1 (u : S512x1024.Idx → EReal) (w : S1x1024x1024.Idx → EReal) (y : S512x1024.Idx) :
    k0_pay1 (F := Ideal) u (k0_pay11 (F := Ideal) w) (constant S512x1024 .f32 0x00000000#32) y = ∑ k, u (ix2 (y 0) k) * w (ix3 0 k (y 1)) := by
  idx_vars y
  unfold k0_pay1 k0_pay11
  pointwise

/-! ## The tile's five blocks -/

theorem hz2 : (![0, 0] : Fin 2 → Nat) = fun _ => 0 := funext fun a => by fin_cases a <;> rfl

/-- A piece of a block of columns. -/
theorem ldw (w : S4x1024x1280.Idx → EReal) {q o n : ℕ} {h} (k : Fin 1024) (j : Fin n) (J : Fin 5120) (ho : o + j.val < 1280)
    (hJ : J.val = q * 1280 + o + j.val) :
    View.ld (Val := Elt Ideal) (e' := EltTy.bf16) w (Rect.unit (s := S4x1024x1280) ![q, 0, o] ![1, 1024, n] h) (ix3 0 k j) = col w J k := by
  refine (View.ld_unit_apply_of (S := S4x1024x1280) (Val := Elt Ideal) (e := EltTy.bf16) w ![q, 0, o] ![1, 1024, n] h (ix3 0 k j)
    (ix3 ⟨J.val / 1280, by omega⟩ k ⟨J.val % 1280, by omega⟩) fun a => ?_).trans rfl
  match a with
  | ⟨0, _⟩ => show J.val / 1280 = q + 0; omega
  | ⟨1, _⟩ => show k.val = 0 + k.val; omega
  | ⟨2, _⟩ => show J.val % 1280 = o + j.val; omega

/-- A token's product with column `j` of the matrix. -/
def prj (w : S4x1024x1280.Idx → EReal) (i : Fin 512) (j : Fin 5120) : EReal := prd (tok x i) (gain g) (col w j)

variable (w : S4x1024x1280.Idx → EReal)

theorem ldx : View.ld (Val := Elt Ideal) (e' := EltTy.f32) x r0_0 = x := View.ld_unit_zero (S := S512x1024) hz2 _ _
theorem ldg : View.ld (Val := Elt Ideal) (e' := EltTy.f32) g r0_1 = g := View.ld_unit_zero (S := S1x1024) hz2 _ _

theorem a (y : S512x1024.Idx) : k0_pay13 (F := Ideal) x g w y = prj x g w (y 0) ⟨(y 1).val, by have : (y 1).val < 1024 := (y 1).isLt; omega⟩ := by
  have h1 : (y 1).val < 1024 := (y 1).isLt
  unfold k0_pay13
  rw [ldx, ldg, pay3]
  exact congrArg _ (funext fun k => ldw w k _ _ (by omega) (by show _ = _ + (y 1).val; simp))

theorem gate (y : S512x1024.Idx) : k0_pay4 (F := Ideal) x g (View.ld w r0_3) (View.ld w r0_4) y =
    prj x g w (y 0) ⟨1024 + (y 1).val, by have : (y 1).val < 1024 := (y 1).isLt; omega⟩ := by
  have h1 : (y 1).val < 1024 := (y 1).isLt
  rw [pay4]
  refine congrArg _ (funext fun k => ?_)
  split
  · exact ldw w k _ _ (by simp; omega) (by simp)
  · exact ldw w k _ _ (by simp; omega) (by simp; omega)

theorem o3 : out0_3 (F := Ideal) x g w = fun y => nrm (tok x (y 0)) (gain g) (y 1) := by
  funext y
  unfold out0_3
  rw [View.canon_cons_unit_zero (S := S512x1024) hz2, ldx, ldg, pay2]

theorem o4 : out0_4 (F := Ideal) x g w = fun y => prj x g w (y 0) ⟨(y 1).val, by have : (y 1).val < 1024 := (y 1).isLt; omega⟩ *
    sgm (prj x g w (y 0) ⟨1024 + (y 1).val, by have : (y 1).val < 1024 := (y 1).isLt; omega⟩) := by
  funext y
  unfold out0_4
  rw [View.canon_cons_unit_zero (S := S512x1024) hz2, ldx, ldg]
  show k0_pay13 (F := Ideal) x g w y * k0_pay5 (F := Ideal) x g _ _ y = _
  rw [a, pay5, gate]

/-- An entry of the product, by the value of its column. -/
theorem prj_congr {i i' : Fin 512} {j j' : Fin 5120} (hi : i = i') (hj : j.val = j'.val) : prj x g w i j = prj x g w i' j' := by
  rw [hi, Fin.ext hj]

theorem o5 : out0_5 (F := Ideal) x g w = fun y => prj x g w (y 0) ⟨(y 1).val, by have : (y 1).val < 2048 := (y 1).isLt; omega⟩ := by
  funext y
  unfold out0_5
  rw [ldx, ldg]
  canon_tiles z h
  · exact (gate x g w z).trans (prj_congr x g w (Fin.ext h0.symm) h1.symm)
  · exact (a x g w z).trans (prj_congr x g w (Fin.ext h0.symm) h1.symm)

/-- The normed features that the later products take. -/
theorem fst (i : Fin 512) (k : Fin 1024) : k0_pay12 (F := Ideal) x g w (ix2 i k) = nrm (tok x i) (gain g) k := by
  unfold k0_pay12
  rw [ldx, ldg, pay2]
  rfl

theorem o6 : out0_6 (F := Ideal) x g w = fun y => prj x g w (y 0) ⟨2048 + (y 1).val, by have : (y 1).val < 1024 := (y 1).isLt; omega⟩ := by
  funext y
  have h1 : (y 1).val < 1024 := (y 1).isLt
  unfold out0_6
  rw [View.canon_cons_unit_zero (S := S512x1024) hz2, pay9]
  unfold prj prd
  refine Finset.sum_congr rfl fun k _ => congrArg₂ (· * ·) ?_ ?_
  · exact fst x g w _ _
  · split
    · exact ldw w k _ _ (by simp; omega) (by simp)
    · exact ldw w k _ _ (by simp; omega) (by simp; omega)

theorem o7 : out0_7 (F := Ideal) x g w = fun y => prj x g w (y 0) ⟨3072 + (y 1).val, by have : (y 1).val < 2048 := (y 1).isLt; omega⟩ := by
  funext y
  unfold out0_7
  canon_tiles z h
  · refine Eq.trans ?_ (prj_congr x g w (i := z 0) (j := ⟨4096 + (z 1).val, by omega⟩) (Fin.ext h0.symm)
      (by show 4096 + (z 1).val = 3072 + (y 1).val; omega))
    rw [pay1]
    exact Finset.sum_congr rfl fun k _ => congrArg₂ (· * ·) (fst x g w _ _) (ldw w k _ _ (by omega) (by simp))
  · refine Eq.trans ?_ (prj_congr x g w (i := z 0) (j := ⟨3072 + (z 1).val, by omega⟩) (Fin.ext h0.symm)
      (by show 3072 + (z 1).val = 3072 + (y 1).val; omega))
    rw [pay10]
    refine Finset.sum_congr rfl fun k _ => congrArg₂ (· * ·) (fst x g w _ _) ?_
    split
    · exact ldw w k _ _ (by simp; omega) (by simp)
    · exact ldw w k _ _ (by simp; omega) (by simp; omega)

end Cert.Entry

end
-- ==== Proof.Entry.Arrays.lean ====
/- The norm and the product at the block's input: the five arrays that the kernel leaves, and what the reference computes. -/
module

public import proofs.«01_k».proof.Proof.Entry.Tile
public import proofs.«01_k».proof.Proof.Gen.InRefIdeal.Run
public import Idealize.ShloMosaic.Lib.Tactic.CleanTypes

@[expose] public section

set_option maxRecDepth 16384

noncomputable section

namespace Cert.Entry

open Idealize.ShloMosaic

variable (x : (⟨2, ![4096, 1024]⟩ : Shape).Idx → EReal) (g : (⟨1, ![1024]⟩ : Shape).Idx → EReal) (w : (⟨2, ![1024, 5120]⟩ : Shape).Idx → EReal)

/-- Feature `k` of token `i`, normed. -/
def normed (i : Fin 4096) (k : Fin 1024) : EReal := nrm (fun k => x (ix2 i k)) (fun k => g (ix1 k)) k

/-- Column `j` of the product, at token `i`. -/
def proj (i : Fin 4096) (j : Fin 5120) : EReal := prd (fun k => x (ix2 i k)) (fun k => g (ix1 k)) (fun k => w (ix2 k j))

/-- The normed input. -/
def resU : (⟨2, ![4096, 1024]⟩ : Shape).Idx → EReal := fun y => normed x g (y 0) (y 1)
/-- The gated linear unit: the first columns times the logistic function of the second ones. -/
def resGlu : (⟨2, ![4096, 1024]⟩ : Shape).Idx → EReal := fun y =>
  proj x g w (y 0) ⟨(y 1).val, by have : (y 1).val < 1024 := (y 1).isLt; omega⟩ *
    sgm (proj x g w (y 0) ⟨1024 + (y 1).val, by have : (y 1).val < 1024 := (y 1).isLt; omega⟩)
/-- The unit's two operands side by side. -/
def resAg : (⟨2, ![4096, 2048]⟩ : Shape).Idx → EReal := fun y => proj x g w (y 0) ⟨(y 1).val, by have : (y 1).val < 2048 := (y 1).isLt; omega⟩
/-- What the pooling branch takes. -/
def resP : (⟨2, ![4096, 1024]⟩ : Shape).Idx → EReal := fun y => proj x g w (y 0) ⟨2048 + (y 1).val, by have : (y 1).val < 1024 := (y 1).isLt; omega⟩
/-- The gates' arguments. -/
def resGt : (⟨2, ![4096, 2048]⟩ : Shape).Idx → EReal := fun y => proj x g w (y 0) ⟨3072 + (y 1).val, by have : (y 1).val < 2048 := (y 1).isLt; omega⟩

end Cert.Entry

namespace Cert.Entry

open Idealize.ShloMosaic Idealize.ShloMosaic.TcCoe Cert.InIdeal Cert.InIdeal.Gen

/-- Every window's block index at every point. -/
theorem idx : ∀ t : Fin cfg0.N, (win0_0.index t = ![t.val, 0] ∧ win0_1.index t = ![0, 0] ∧ win0_2.index t = ![0, 0, 0] ∧
    win0_3.index t = ![t.val, 0]) ∧ (win0_4.index t = ![t.val, 0] ∧ win0_5.index t = ![t.val, 0] ∧ win0_6.index t = ![t.val, 0] ∧
    win0_7.index t = ![t.val, 0]) :=
  (by decide +kernel : ∀ t : Fin grid0.N, _)

variable (m : (ℓ : Loc nD τ sig) → Buf (Elt Ideal) ℓ) (c : Dev nD)

/-- Token `i` of point `t`. -/
def row512 (t : Fin cfg0.N) (i : Fin 512) : Fin 4096 := ⟨t.val * 512 + i.val, by have : t.val < 8 := t.isLt; omega⟩

theorem iblk0 (t : Fin cfg0.N) (y : S512x1024.Idx) :
    iblk m c 0 t y = m ((c : Thread nD τ).loc main_arg0) (ix2 (row512 t (y 0)) (y 1)) := by
  unfold row512
  blk_ext! [iblk, V, idx t]

theorem iblk1 (t : Fin cfg0.N) (y : S1x1024.Idx) : iblk m c 1 t y = m ((c : Thread nD τ).loc main_arg1) (ix1 (y 1)) := by
  have e : iblk m c 1 t y = V m c main_v3 (ix2 0 (y 1)) := by
    have h : (y 0).val < 1 := (y 0).isLt
    blk_ext! [iblk, idx t]
  rw [e]
  entry_read
  pointwise

theorem iblk2 (t : Fin cfg0.N) (y : S4x1024x1280.Idx) : iblk m c 2 t y = m ((c : Thread nD τ).loc main_arg2) (ix2 (y 1) ⟨(y 0).val * 1280 + (y 2).val, by
    have : (y 0).val < 4 := (y 0).isLt; have : (y 2).val < 1280 := (y 2).isLt; omega⟩) := by
  have e : iblk m c 2 t y = V m c main_v2 (ix3 (y 0) (y 1) (y 2)) := by
    blk_ext! [iblk, idx t]
  rw [e]
  entry_read
  pointwise

/-- The normed features of a point's token. -/
theorem nrm_eq (t : Fin cfg0.N) (i : Fin 512) (k : Fin 1024) : nrm (tok (iblk m c 0 t) i) (gain (iblk m c 1 t)) k =
    normed (m ((c : Thread nD τ).loc main_arg0)) (m ((c : Thread nD τ).loc main_arg1)) (row512 t i) k := by
  have hx : tok (iblk m c 0 t) i = fun k => m ((c : Thread nD τ).loc main_arg0) (ix2 (row512 t i) k) := funext fun k => iblk0 m c t (ix2 i k)
  have hg : gain (iblk m c 1 t) = fun k => m ((c : Thread nD τ).loc main_arg1) (ix1 k) := funext fun k => iblk1 m c t (ix2 0 k)
  rw [hx, hg]; rfl

/-- The product of a point's token. -/
theorem prj_eq (t : Fin cfg0.N) (i : Fin 512) (j : Fin 5120) : prj (iblk m c 0 t) (iblk m c 1 t) (iblk m c 2 t) i j =
    proj (m ((c : Thread nD τ).loc main_arg0)) (m ((c : Thread nD τ).loc main_arg1)) (m ((c : Thread nD τ).loc main_arg2)) (row512 t i) j := by
  have hx : tok (iblk m c 0 t) i = fun k => m ((c : Thread nD τ).loc main_arg0) (ix2 (row512 t i) k) := funext fun k => iblk0 m c t (ix2 i k)
  have hg : gain (iblk m c 1 t) = fun k => m ((c : Thread nD τ).loc main_arg1) (ix1 k) := funext fun k => iblk1 m c t (ix2 0 k)
  have hw : col (iblk m c 2 t) j = fun k => m ((c : Thread nD τ).loc main_arg2) (ix2 k j) := by
    funext k
    unfold col
    rw [iblk2]
    refine congrArg _ (congrArg _ (Fin.ext ?_))
    show j.val / 1280 * 1280 + j.val % 1280 = j.val
    omega
  unfold prj proj
  rw [hx, hg, hw]

/-- The normed input. -/
theorem arr3 : (dats m 0 c).arrAt 3 cfg0.N = resU (m ((c : Thread nD τ).loc main_arg0)) (m ((c : Thread nD τ).loc main_arg1)) :=
  (dats m 0 c).arrAt_eq_of_covers 3 _ (by decide +kernel) fun t hf y => by
    blk_simp
    rw [after0_3, o3]
    have e : (win0_3.blk t).view.emb y = ix2 (row512 t (y 0)) (y 1) := by
      funext a
      apply Fin.ext
      blk_simp
      match a with
      | ⟨0, _⟩ => simp [idx t, row512]
      | ⟨1, _⟩ => simp [idx t]
    rw [e]
    exact nrm_eq m c t (y 0) (y 1)

/-- The gated linear unit. -/
theorem arr4 : (dats m 0 c).arrAt 4 cfg0.N = resGlu (m ((c : Thread nD τ).loc main_arg0)) (m ((c : Thread nD τ).loc main_arg1)) (m ((c : Thread nD τ).loc main_arg2)) :=
  (dats m 0 c).arrAt_eq_of_covers 4 _ (by decide +kernel) fun t hf y => by
    blk_simp
    rw [after0_4, o4]
    have e : (win0_4.blk t).view.emb y = ix2 (row512 t (y 0)) (y 1) := by
      funext a
      apply Fin.ext
      blk_simp
      match a with
      | ⟨0, _⟩ => simp [idx t, row512]
      | ⟨1, _⟩ => simp [idx t]
    rw [e]
    exact congrArg₂ (fun p q : EReal => p * sgm q) (prj_eq m c t (y 0) _) (prj_eq m c t (y 0) _)

/-- The unit's operands. -/
theorem arr5 : (dats m 0 c).arrAt 5 cfg0.N = resAg (m ((c : Thread nD τ).loc main_arg0)) (m ((c : Thread nD τ).loc main_arg1)) (m ((c : Thread nD τ).loc main_arg2)) :=
  (dats m 0 c).arrAt_eq_of_covers 5 _ (by decide +kernel) fun t hf y => by
    blk_simp
    rw [after0_5, o5]
    have e : (win0_5.blk t).view.emb y = ix2 (row512 t (y 0)) (y 1) := by
      funext a
      apply Fin.ext
      blk_simp
      match a with
      | ⟨0, _⟩ => simp [idx t, row512]
      | ⟨1, _⟩ => simp [idx t]
    rw [e]
    exact prj_eq m c t (y 0) _

/-- What the pooling branch takes. -/
theorem arr6 : (dats m 0 c).arrAt 6 cfg0.N = resP (m ((c : Thread nD τ).loc main_arg0)) (m ((c : Thread nD τ).loc main_arg1)) (m ((c : Thread nD τ).loc main_arg2)) :=
  (dats m 0 c).arrAt_eq_of_covers 6 _ (by decide +kernel) fun t hf y => by
    blk_simp
    rw [after0_6, o6]
    have e : (win0_6.blk t).view.emb y = ix2 (row512 t (y 0)) (y 1) := by
      funext a
      apply Fin.ext
      blk_simp
      match a with
      | ⟨0, _⟩ => simp [idx t, row512]
      | ⟨1, _⟩ => simp [idx t]
    rw [e]
    exact prj_eq m c t (y 0) _

/-- The gates' arguments. -/
theorem arr7 : (dats m 0 c).arrAt 7 cfg0.N = resGt (m ((c : Thread nD τ).loc main_arg0)) (m ((c : Thread nD τ).loc main_arg1)) (m ((c : Thread nD τ).loc main_arg2)) :=
  (dats m 0 c).arrAt_eq_of_covers 7 _ (by decide +kernel) fun t hf y => by
    blk_simp
    rw [after0_7, o7]
    have e : (win0_7.blk t).view.emb y = ix2 (row512 t (y 0)) (y 1) := by
      funext a
      apply Fin.ext
      blk_simp
      match a with
      | ⟨0, _⟩ => simp [idx t, row512]
      | ⟨1, _⟩ => simp [idx t]
    rw [e]
    exact prj_eq m c t (y 0) _

end Cert.Entry

namespace Cert.Entry

open Idealize.ShloMosaic Cert.InRefIdeal Cert.InRefIdeal.Gen

variable (x : FVec Ideal S4096x1024 .f32) (g : FVec Ideal S1024 .f32) (w : FVec Ideal S1024x5120 .f32)

/-- The reference's norm. -/
theorem refN : mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g)) = resU x g := by
  funext y; clean_types; idx_vars y; pointwise
  rfl

/-- The reference's product. -/
theorem refD : Host.dotGeneral (φ₁ := .f32) (φ₂ := .f32) dot_S4096x1024_S1024x5120_S4096x5120_1_0_0_1_n_n none (resU x g) w =
    fun y : S4096x5120.Idx => proj x g w (y 0) (y 1) := by
  funext y; clean_types; idx_vars y; pointwise
  rfl

/-- The reference's normed input. -/
theorem refU : truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32 = resU x g := by
  rw [refN]
  funext y; clean_types; idx_vars y; pointwise

/-- The reference's gated linear unit. -/
theorem refGlu : mulf (extractStridedSlice S4096x1024 ![0, 0] (extractStridedSlice S4096x2048 ![0, 0] (Host.dotGeneral dot_S4096x1024_S1024x5120_S4096x5120_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) w) slices_S4096x5120_S4096x2048_0_0) slices_S4096x2048_S4096x1024_0_0) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extractStridedSlice S4096x2048 ![0, 0] (Host.dotGeneral dot_S4096x1024_S1024x5120_S4096x5120_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) w) slices_S4096x5120_S4096x2048_0_0) slices_S4096x2048_S4096x1024_0_1024))))) = resGlu x g w := by
  rw [refN, refD]
  funext y; clean_types; idx_vars y; pointwise
  rfl

/-- The reference's operands of the unit. -/
theorem refAg : truncf .bf16 (extractStridedSlice S4096x2048 ![0, 0] (Host.dotGeneral dot_S4096x1024_S1024x5120_S4096x5120_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) w) slices_S4096x5120_S4096x2048_0_0) bitsLt_bf16_f32 = resAg x g w := by
  rw [refN, refD]
  funext y; clean_types; idx_vars y; pointwise
  rfl

/-- What the reference's pooling branch takes. -/
theorem refP : extractStridedSlice S4096x1024 ![0, 2048] (Host.dotGeneral dot_S4096x1024_S1024x5120_S4096x5120_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) w) slices_S4096x5120_S4096x1024_0_2048 = resP x g w := by
  rw [refN, refD]
  funext y; clean_types; idx_vars y; pointwise
  rfl

/-- The reference's arguments of the gates. -/
theorem refGt : truncf .bf16 (extractStridedSlice S4096x2048 ![0, 3072] (Host.dotGeneral dot_S4096x1024_S1024x5120_S4096x5120_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) w) slices_S4096x5120_S4096x2048_0_3072) bitsLt_bf16_f32 = resGt x g w := by
  rw [refN, refD]
  funext y; clean_types; idx_vars y; pointwise
  rfl

end Cert.Entry

end
-- ==== Proof.Entry.Claims.lean ====
/- The claims about the norm and the product at the block's input. -/
module

public import proofs.«01_k».proof.Defs
public import proofs.«01_k».proof.Proof.Entry.Arrays
public import Idealize.ShloMosaic.Adequacy
public import Idealize.ShloMosaic.Init
public import Idealize.ShloMosaic.Lib.Claim

@[expose] public section

set_option maxRecDepth 16384

noncomputable section

namespace Cert.Entry

open Idealize.ShloMosaic Idealize.SL.Sem

/-- Over the extended reals the kernel's five arrays are the reference's. -/
theorem algebraic : Cert.algebraic_InIdeal_InRefIdeal (hInIdeal := Cert.InIdeal.Gen.facts) (hInRefIdeal := Cert.InRefIdeal.Gen.facts) := by
  pair_intro
  · run_from Cert.InIdeal.Value.run_blocks m g
  · run_from Cert.InRefIdeal.Value.run m' g'
    · exact (refU _ _).trans (arr3 m c).symm
    · exact (refGlu _ _ _).trans (arr4 m c).symm
    · exact (refAg _ _ _).trans (arr5 m c).symm
    · exact (refP _ _ _).trans (arr6 m c).symm
    · exact (refGt _ _ _).trans (arr7 m c).symm

/-- The reference's frame: its run read at the arguments; it has no semaphore. -/
theorem frame_ri : Cert.quiescent_InRefIdeal (hInRefIdeal := Cert.InRefIdeal.Gen.facts) := fun m ρ _ =>
  (θ_run Cert.InRefIdeal.defs _ _).mono (fun r h => ⟨fun c => (h c).2.2.2.2.2, sem_eq_zero_of_no_sems (by decide) r.2⟩)
    (Cert.InRefIdeal.Value.run (F := Ideal) m ρ)

end Cert.Entry

end
-- ==== Proof.Lift.lean ====
/- Finite numbers inside the extended reals: how the operations of the two programs act on them,
   and the few constants the programs carry. -/
module

public import Idealize.ShloMosaic.Lib.Pointwise
public import Idealize.ShloMosaic.Lib.IdealHost

@[expose] public section

noncomputable section

namespace Cert.Lift

open Idealize.ShloMosaic

/-- A vector of reals as a vector of extended reals. -/
def up1 {a : ℕ} (X : Fin a → ℝ) : (⟨1, ![a]⟩ : Shape).Idx → EReal := fun y => ((X (y 0) : ℝ) : EReal)
/-- A matrix of reals as a matrix of extended reals. -/
def up2 {a b : ℕ} (X : Fin a → Fin b → ℝ) : (⟨2, ![a, b]⟩ : Shape).Idx → EReal := fun y => ((X (y 0) (y 1) : ℝ) : EReal)
/-- A box of reals as a box of extended reals. -/
def up3 {a b c : ℕ} (X : Fin a → Fin b → Fin c → ℝ) : (⟨3, ![a, b, c]⟩ : Shape).Idx → EReal :=
  fun y => ((X (y 0) (y 1) (y 2) : ℝ) : EReal)

theorem up1_ix {a : ℕ} (X : Fin a → ℝ) (i : Fin a) : up1 X (ix1 i) = ((X i : ℝ) : EReal) := rfl
theorem up2_ix {a b : ℕ} (X : Fin a → Fin b → ℝ) (i : Fin a) (j : Fin b) : up2 X (ix2 i j) = ((X i j : ℝ) : EReal) := rfl
theorem up3_ix {a b c : ℕ} (X : Fin a → Fin b → Fin c → ℝ) (i : Fin a) (j : Fin b) (k : Fin c) :
    up3 X (ix3 i j k) = ((X i j k : ℝ) : EReal) := rfl

/-- A finite sum of finite numbers is the number that their sum is. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A quotient of finite numbers by one that is not zero. -/
theorem coe_div (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The reciprocal square root of a positive number. -/
theorem coe_rsqrt (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- The larger of two finite numbers. -/
theorem coe_max (x y : ℝ) : max (x : EReal) (y : EReal) = ((max x y : ℝ) : EReal) :=
  (EReal.coe_strictMono.monotone.map_max).symm

/-- The number added to a mean square before its root is taken: the binary32 number nearest one millionth. -/
def eps : ℝ := 8796093 * (2 : ℝ) ^ (-43 : ℤ)

theorem eps_pos : 0 < eps := by unfold eps; positivity

theorem bits_eps : Ideal.ofBits .f32 0x358637BD#32 = ((eps : ℝ) : EReal) := by
  unfold eps
  simp [Ideal.ofBits, Ideal.ieee, -EReal.coe_mul]
theorem bits_1024 : Ideal.ofBits .f32 0x44800000#32 = ((1024 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-1 / 2 : ℝ) : EReal) := by
  simp [Ideal.ofBits, Ideal.ieee, -EReal.coe_mul, -EReal.coe_neg]; norm_num
theorem bits_1_1024 : Ideal.ofBits .f32 0x3A800000#32 = ((1 / 1024 : ℝ) : EReal) := by
  simp [Ideal.ofBits, Ideal.ieee, -EReal.coe_mul]; norm_num
theorem bits_1_2048 : Ideal.ofBits .f32 0x3A000000#32 = ((1 / 2048 : ℝ) : EReal) := by
  simp [Ideal.ofBits, Ideal.ieee, -EReal.coe_mul]; norm_num
theorem bits_inf : Ideal.ofBits .f32 0x7F800000#32 = (⊤ : EReal) := by
  simp [Ideal.ofBits, Ideal.ieee]

/-- What is below the largest extended real in size is a number. -/
theorem exists_real (x : EReal) (h : max x (-x) < ⊤) : ∃ r : ℝ, x = (r : EReal) := by
  induction x using EReal.rec with
  | bot => simp at h
  | coe r => exact ⟨r, rfl⟩
  | top => simp at h

/-- A product of sums of squares is not negative, so the mean square plus `eps` is positive. -/
theorem ms_pos {n : ℕ} (x : Fin n → ℝ) (c : ℝ) (hc : 0 < c) : 0 < (∑ k, x k * x k) / c + eps :=
  add_pos_of_nonneg_of_pos (div_nonneg (Finset.sum_nonneg fun k _ => mul_self_nonneg (x k)) hc.le) eps_pos

end Cert.Lift

end
-- ==== Proof.Rows.lean ====
/- The block's second sub-layer on ONE token, over the reals: its forward pass and the gradient of the loss. -/
module

public import proofs.«01_k».proof.Proof.Lift

@[expose] public section

noncomputable section

namespace Cert.Rows

open Cert.Lift

/-- One token's activations. -/
abbrev Row := Fin 1024 → ℝ

/-- The reciprocal root mean square of a row. -/
def inv (x : Row) : ℝ := (Real.sqrt ((∑ k, x k * x k) / 1024 + eps))⁻¹

/-- The row at root mean square one. -/
def unit (x : Row) : Row := fun k => x k * inv x

/-- The gradient of `unit` at `x` pulled back from `d`. -/
def pull (x d : Row) : Row := fun k => inv x * (d k - unit x k * ((∑ l, d l * unit x l) / 1024))

/-- What the sub-layer is given besides the token: its two gains and its two matrices. -/
structure Weights where
  g3 : Row
  g4 : Row
  w1 : Fin 1024 → Fin 4096 → ℝ
  w2 : Fin 4096 → Fin 1024 → ℝ

variable (P : Weights)

/-- The first norm's result. -/
def v (h : Row) : Row := fun k => unit h k * P.g3 k
/-- The hidden units, cut off at zero. -/
def f1 (h : Row) : Fin 4096 → ℝ := fun j => max (∑ k, v P h k * P.w1 k j) 0
/-- … squared. -/
def a2 (h : Row) : Fin 4096 → ℝ := fun j => f1 P h j * f1 P h j
/-- The second product. -/
def f2 (h : Row) : Row := fun k => ∑ j, a2 P h j * P.w2 j k
/-- The output's distance from the target. -/
def err (h t : Row) : Row := fun k => h k + unit (f2 P h) k * P.g4 k - t k
/-- The loss's gradient by the output. -/
def dh2 (h t : Row) : Row := fun k => err P h t k * (1 / 1024)
/-- … by the second product. -/
def df2 (h t : Row) : Row := pull (f2 P h) fun k => dh2 P h t k * P.g4 k
/-- … by the first product. -/
def df1 (h t : Row) : Fin 4096 → ℝ := fun j => (∑ k, df2 P h t k * P.w2 j k) * (2 * f1 P h j)
/-- … by the first norm's result. -/
def dv (h t : Row) : Row := fun k => ∑ j, df1 P h t j * P.w1 k j
/-- … by the token. -/
def dh1 (h t : Row) : Row := fun k => dh2 P h t k + pull h (fun l => dv P h t l * P.g3 l) k

/-- The gradients that are sums over the tokens, as rows of one array: those of the two gains, then the loss
    channel by channel; the other rows are zero. -/
def vec {n : ℕ} (H T : Fin n → Row) : Fin 8 → Row := fun r k =>
  if r = 0 then ∑ i, dv P (H i) (T i) k * unit (H i) k
  else if r = 1 then ∑ i, dh2 P (H i) (T i) k * unit (f2 P (H i)) k
  else if r = 2 then (∑ i, err P (H i) (T i) k * err P (H i) (T i) k) * (1 / 2048)
  else 0

end Cert.Rows

end
-- ==== Proof.Mix.Rows.lean ====
/- The block's first sub-layer on ONE token, over the reals, from the convolution's result, the pooled values and the gates:
   its forward pass and the gradient of the loss. -/
module

public import proofs.«01_k».proof.Proof.Rows

@[expose] public section

noncomputable section

namespace Cert.Mixing

open Cert.Lift Cert.Rows

/-- The logistic function. -/
def sgm (x : ℝ) : ℝ := 1 / (1 + Real.exp (-x))

/-- The number added to a variance before its root is taken: the binary32 number nearest one hundred-thousandth. -/
def eps5 : ℝ := 10995116 * (2 : ℝ) ^ (-40 : ℤ)

theorem eps5_pos : 0 < eps5 := by unfold eps5; positivity

/-- The mean of a row. -/
def mean (x : Row) : ℝ := (∑ k, x k) / 1024
/-- The row about its mean. -/
def cen (x : Row) : Row := fun k => x k - mean x
/-- The row's variance, plus `eps5`. -/
def var (x : Row) : ℝ := (∑ k, cen x k * cen x k) / 1024 + eps5
/-- The reciprocal of its root. -/
def rstd (x : Row) : ℝ := (Real.sqrt (var x))⁻¹
/-- The row at mean zero and variance one. -/
def nrm (x : Row) : Row := fun k => cen x k * rstd x
/-- The gradient of `nrm` at `x` pulled back from `d`. -/
def pullN (x d : Row) : Row := fun k => rstd x * (d k - (∑ l, d l) / 1024 - nrm x k * ((∑ l, d l * nrm x l) / 1024))

/-- Channel `l` of group `q`. -/
def cell (q : Fin 4) (l : Fin 256) : Fin 1024 := ⟨q.val * 256 + l.val, by omega⟩
/-- A channel's group. -/
def grp (k : Fin 1024) : Fin 4 := ⟨k.val / 256, by omega⟩
/-- A channel's place in its group. -/
def off (k : Fin 1024) : Fin 256 := ⟨k.val % 256, by omega⟩
/-- A channel among the gates of the convolution's branch. -/
def lft (k : Fin 1024) : Fin 2048 := ⟨k.val, by omega⟩
/-- A channel among the gates of the pooling branch. -/
def rgt (k : Fin 1024) : Fin 2048 := ⟨1024 + k.val, by omega⟩

/-- What the sub-layer is given besides the token. -/
structure Params where
  lg : Row
  lb : Row
  ps : Row
  g2 : Row
  wco : Fin 1024 → Fin 1024 → ℝ
  pw : Fin 4 → Fin 256 → Fin 256 → ℝ
  wpo : Fin 1024 → Fin 1024 → ℝ
  wo : Fin 1024 → Fin 1024 → ℝ

/-- One token: the gradient at the sub-layer's output, the convolution's result, the pooled values and the gates. -/
structure Token where
  d : Row
  u : Row
  z : Row
  gt : Fin 2048 → ℝ

variable (P : Params) (S : Token)

/-- The layer norm's result. -/
def ln : Row := fun k => nrm S.u k * P.lg k + P.lb k
/-- The convolution's branch. -/
def yc : Row := fun k => ∑ j, (ln P S j * sgm (ln P S j)) * P.wco j k
/-- The groups' linear map of the pooled values. -/
def zl : Row := fun k => ∑ l, S.z (cell (grp k) l) * P.pw (grp k) l (off k)
/-- The pooling branch. -/
def yp : Row := fun k => ∑ j, (zl P S j * P.ps j) * P.wpo j k
/-- The gates. -/
def gc : Row := fun k => sgm (S.gt (lft k))
def gp : Row := fun k => sgm (S.gt (rgt k))
/-- The sub-layer's result before its norm. -/
def mo : Row := fun k => ∑ j, (gc S j * yc P S j + gp S j * yp P S j) * P.wo j k
/-- The gradient by it. -/
def dmo : Row := pull (mo P S) fun k => S.d k * P.g2 k
/-- … by the merged branches. -/
def dmg : Row := fun j => ∑ k, dmo P S k * P.wo j k
/-- … by the gates' arguments. -/
def dgc : Row := fun k => dmg P S k * yc P S k * gc S k * (1 - gc S k)
def dgp : Row := fun k => dmg P S k * yp P S k * gp S k * (1 - gp S k)
def dgt : Fin 2048 → ℝ := fun j => if h : j.val < 1024 then dgc P S ⟨j.val, h⟩ else dgp P S ⟨j.val - 1024, by omega⟩
/-- … by the branches. -/
def dyc : Row := fun k => dmg P S k * gc S k
def dyp : Row := fun k => dmg P S k * gp S k
/-- … by the convolution's activation. -/
def dsw : Row := fun j => ∑ k, dyc P S k * P.wco j k
/-- … by the layer norm's result. -/
def dln : Row := fun k => dsw P S k * (sgm (ln P S k) * (1 + ln P S k * (1 - sgm (ln P S k))))
/-- … by the convolution's result. -/
def dcv : Row := pullN S.u fun k => dln P S k * P.lg k
/-- … by the scaled pooling branch. -/
def dzs : Row := fun j => ∑ k, dyp P S k * P.wpo j k
/-- … by the groups' linear map. -/
def dzl : Row := fun k => dzs P S k * P.ps k
/-- … by the pooled values. -/
def dz : Row := fun k => ∑ l, dzl P S (cell (grp k) l) * P.pw (grp k) (off k) l

/-- The gradients that are sums over the tokens, as rows of one array: the norm's gain, the layer norm's gain and bias, the
    convolution's bias, the pooling scale; the other rows are zero. -/
def vec {n : ℕ} (S : Fin n → Token) : Fin 8 → Row := fun r k =>
  if r = 0 then ∑ i, (S i).d k * unit (mo P (S i)) k
  else if r = 1 then ∑ i, dln P (S i) k * nrm (S i).u k
  else if r = 2 then ∑ i, dln P (S i) k
  else if r = 3 then ∑ i, dcv P (S i) k
  else if r = 4 then ∑ i, dzs P (S i) k * zl P (S i) k
  else 0

theorem var_pos (x : Row) : 0 < var x :=
  add_pos_of_nonneg_of_pos (div_nonneg (Finset.sum_nonneg fun k _ => mul_self_nonneg _) (by norm_num)) eps5_pos

theorem den_ne (x : ℝ) : 1 + Real.exp (-x) ≠ 0 := (add_pos one_pos (Real.exp_pos _)).ne'

open Idealize.ShloMosaic

theorem coe_exp (x : ℝ) : Ideal.exp (x : EReal) = ((Real.exp x : ℝ) : EReal) := rfl

theorem bits_eps5 : Ideal.ofBits .f32 0x3727C5AC#32 = ((eps5 : ℝ) : EReal) := by
  unfold eps5
  simp [Ideal.ofBits, Ideal.ieee, -EReal.coe_mul]

/-- The logistic function as the programs compute it. -/
theorem coe_sig (x : ℝ) : Ideal.div 1 (1 + Ideal.exp ((-x : ℝ) : EReal)) = ((sgm x : ℝ) : EReal) := by
  rw [coe_exp, ← EReal.coe_one, ← EReal.coe_add, coe_div _ _ (den_ne x)]; rfl

theorem zero_sub_coe (x : ℝ) : (0 : EReal) - (x : EReal) = ((-x : ℝ) : EReal) := by
  rw [← EReal.coe_zero, ← EReal.coe_sub, zero_sub]

theorem one_sub_coe (x : ℝ) : (1 : EReal) - (x : EReal) = ((1 - x : ℝ) : EReal) := by
  rw [← EReal.coe_one, ← EReal.coe_sub]

theorem one_add_coe (x : ℝ) : (1 : EReal) + (x : EReal) = ((1 + x : ℝ) : EReal) := by
  rw [← EReal.coe_one, ← EReal.coe_add]

end Cert.Mixing

end
-- ==== Proof.Mix.Payloads.lean ====
/- One tile of the kernel: what each of its stored values is, on finite inputs, in terms of the tokens' functions. -/
module

public import proofs.«01_k».proof.Proof.Mix.Rows
public import proofs.«01_k».proof.Proof.Gen.MixIdeal.Skeleton

@[expose] public section

set_option maxRecDepth 16384

noncomputable section

namespace Cert.Mixing

open Idealize.ShloMosaic Cert.MixIdeal Cert.MixIdeal.Gen Cert.Lift Cert.Rows

theorem at1 {a : ℕ} (X : Fin a → ℝ) (i : Fin a) : up1 X (ix1 i) = ((X i : ℝ) : EReal) := by rw [up1]; rfl
theorem at2 {a b : ℕ} (X : Fin a → Fin b → ℝ) (i : Fin a) (j : Fin b) : up2 X (ix2 i j) = ((X i j : ℝ) : EReal) := by rw [up2]; rfl
theorem at3 {a b c : ℕ} (X : Fin a → Fin b → Fin c → ℝ) (i : Fin a) (j : Fin b) (k : Fin c) :
    up3 X (ix3 i j k) = ((X i j k : ℝ) : EReal) := by rw [up3]; rfl

/-- A row as a matrix of one row. -/
def row (g : Row) : Fin 1 → Row := fun _ => g
/-- A function of a row, as a column. -/
def col {n : ℕ} (f : Fin n → ℝ) : Fin n → Fin 1 → ℝ := fun i _ => f i

variable (P : Params) (S : Fin 256 → Token) (X Y : Fin 256 → Row)

theorem pay3 : k0_pay3 (F := Ideal) (up2 X) = up2 X := by
  funext y; idx_vars y
  pointwise [k0_pay3]

theorem pay4 : k0_pay4 (F := Ideal) (up2 X) = up2 (col fun i => inv (X i)) := by
  funext y; idx_vars y
  unfold k0_pay4; rw [pay3]; pointwise
  simp only [at2, bits_1024, bits_eps, ← EReal.coe_mul, coe_sum]
  rw [coe_div _ _ (by norm_num), ← EReal.coe_add, coe_rsqrt _ (ms_pos _ _ (by norm_num))]
  rfl

theorem pay5 : k0_pay5 (F := Ideal) (up2 X) = up2 fun i => unit (X i) := by
  funext y; idx_vars y
  unfold k0_pay5; rw [pay4, pay3]; pointwise
  simp only [at2, ← EReal.coe_mul]; rfl

theorem pay6 (R : Fin 1 → Row) : k0_pay6 (F := Ideal) (up2 Y) (up2 X) (up2 R) =
    up2 fun i k => R i k + ∑ t, Y t k * unit (X t) k := by
  funext y; idx_vars y
  unfold k0_pay6; rw [pay5]; pointwise
  simp only [at2, ← EReal.coe_mul, coe_sum, ← EReal.coe_add]

theorem pay7 (g : Row) : k0_pay7 (F := Ideal) (up2 Y) (up2 X) (up2 (row g)) = up2 fun i => pull (X i) fun k => Y i k * g k := by
  funext y; idx_vars y
  unfold k0_pay7; rw [pay5, pay4]; pointwise
  simp only [at2, bits_1024, ← EReal.coe_mul, coe_sum]
  rw [coe_div _ _ (by norm_num)]
  simp only [← EReal.coe_mul, ← EReal.coe_sub]; rfl

theorem pay8 (W : Fin 1024 → Fin 1024 → ℝ) : k0_pay8 (F := Ideal) (up2 X) (up2 W) = up2 fun i j => ∑ k, X i k * W j k := by
  funext y; idx_vars y
  pointwise [k0_pay8]
  simp only [at2, ← EReal.coe_mul, coe_sum]

theorem pay9 : k0_pay9 (F := Ideal) (up2 X) = up2 fun i k => sgm (X i k) := by
  funext y; idx_vars y
  pointwise [k0_pay9]
  simp only [at2, zero_sub_coe, coe_sig]

theorem pay10 : k0_pay10 (F := Ideal) (up2 X) = up2 fun i k => sgm (X i k) := by
  funext y; idx_vars y
  pointwise [k0_pay10]
  simp only [at2, zero_sub_coe, coe_sig]

theorem pay11 (W : Fin 1024 → Fin 1024 → ℝ) (G Z : Fin 256 → Row) : k0_pay11 (F := Ideal) (up2 X) (up2 W) (up2 G) (up2 Z) =
    up2 fun i k => (∑ j, X i j * W k j) * Z i k * sgm (G i k) * (1 - sgm (G i k)) := by
  funext y; idx_vars y
  unfold k0_pay11; rw [pay8, pay9]; pointwise
  simp only [at2, one_sub_coe, ← EReal.coe_mul]

theorem pay12 : k0_pay12 (F := Ideal) (up2 X) = up2 X := by
  funext y; idx_vars y
  pointwise [k0_pay12]

theorem pay13 (G Z : Fin 256 → Row) : k0_pay13 (F := Ideal) (up2 X) (up2 G) (up2 Z) =
    up2 fun i k => X i k * Z i k * G i k * (1 - G i k) := by
  funext y; idx_vars y
  pointwise [k0_pay13]
  simp only [at2, one_sub_coe, ← EReal.coe_mul]

theorem pay14 : k0_pay14 (F := Ideal) (up2 X) (up2 Y) = up2 fun i k => X i k * Y i k := by
  funext y; idx_vars y
  pointwise [k0_pay14]
  simp only [at2, ← EReal.coe_mul]

theorem pay15 : k0_pay15 (F := Ideal) (up2 X) (up2 Y) = up2 fun i k => X i k * Y i k := by
  funext y; idx_vars y
  pointwise [k0_pay15]
  simp only [at2, ← EReal.coe_mul]

theorem pay16 (W : Fin 1024 → Fin 1024 → ℝ) : k0_pay16 (F := Ideal) (up2 X) (up2 Y) (up2 W) =
    up2 fun i j => ∑ k, X i k * Y i k * W j k := by
  funext y; idx_vars y
  unfold k0_pay16; rw [pay14]; pointwise
  simp only [at2, ← EReal.coe_mul, coe_sum]

theorem pay17 : k0_pay17 (F := Ideal) (up2 X) = up2 fun i => cen (X i) := by
  funext y; idx_vars y
  pointwise [k0_pay17]
  simp only [at2, bits_1024, coe_sum]
  rw [coe_div _ _ (by norm_num), ← EReal.coe_sub]; rfl

theorem pay18 : k0_pay18 (F := Ideal) (up2 X) = up2 (col fun i => rstd (X i)) := by
  funext y; idx_vars y
  unfold k0_pay18; rw [pay17]; pointwise
  simp only [at2, bits_1024, bits_eps5, ← EReal.coe_mul, coe_sum]
  rw [coe_div _ _ (by norm_num), ← EReal.coe_add]
  exact coe_rsqrt _ (var_pos (X y0))

theorem pay19 : k0_pay19 (F := Ideal) (up2 X) = up2 fun i => nrm (X i) := by
  funext y; idx_vars y
  unfold k0_pay19; rw [pay18, pay17]; pointwise
  simp only [at2, ← EReal.coe_mul]; rfl

theorem pay20 (g : Row) : k0_pay20 (F := Ideal) (up2 X) (up2 (row g)) = up2 fun i k => nrm (X i) k * g k := by
  funext y; idx_vars y
  unfold k0_pay20; rw [pay19]; pointwise
  simp only [at2, ← EReal.coe_mul]; rfl

/-- The gradient of the activation at `a + b`, pulled back from `d`. -/
def act (d a b : ℝ) : ℝ := d * (sgm (a + b) * (1 + (a + b) * (1 - sgm (a + b))))

theorem pay21 (g : Row) : k0_pay21 (F := Ideal) (up2 X) (up2 Y) (up2 (row g)) = up2 fun i k => act (X i k) (Y i k) (g k) := by
  funext y; idx_vars y
  pointwise [k0_pay21]
  simp only [at2, row, ← EReal.coe_add, zero_sub_coe, coe_sig, one_sub_coe, ← EReal.coe_mul, one_add_coe]; rfl

theorem pay22 (N : Fin 256 → Row) (g : Row) (R : Fin 1 → Row) : k0_pay22 (F := Ideal) (up2 X) (up2 N) (up2 Y) (up2 (row g)) (up2 R) =
    up2 fun i k => R i k + ∑ t, act (X t k) (Y t k) (g k) * N t k := by
  funext y; idx_vars y
  unfold k0_pay22; rw [pay21]; pointwise
  simp only [at2, ← EReal.coe_mul, coe_sum, ← EReal.coe_add]

theorem pay23 (g : Row) (R : Fin 1 → Row) : k0_pay23 (F := Ideal) (up2 X) (up2 Y) (up2 (row g)) (up2 R) =
    up2 fun i k => R i k + ∑ t, act (X t k) (Y t k) (g k) := by
  funext y; idx_vars y
  unfold k0_pay23; rw [pay21]; pointwise
  simp only [at2, coe_sum, ← EReal.coe_add]

theorem pay24 (g h : Row) : k0_pay24 (F := Ideal) (up2 X) (up2 Y) (up2 (row g)) (up2 (row h)) =
    up2 fun i k => act (X i k) (Y i k) (g k) * h k := by
  funext y; idx_vars y
  unfold k0_pay24; rw [pay21]; pointwise
  simp only [at2, ← EReal.coe_mul]; rfl

theorem pay25 (g h : Row) : k0_pay25 (F := Ideal) (up2 X) (up2 Y) (up2 (row g)) (up2 (row h)) =
    up2 (col fun i => ∑ k, act (X i k) (Y i k) (g k) * h k) := by
  funext y; idx_vars y
  unfold k0_pay25; rw [pay24]; pointwise
  simp only [at2, coe_sum]; rfl

theorem pay26 : k0_pay26 (F := Ideal) = up2 (a := 256) (b := 1) fun _ _ => 1024 := by
  funext y; idx_vars y
  pointwise [k0_pay26]
  simp only [at2, bits_1024]

/-- What the layer norm's gradient is at its sum's value `s`. -/
def pullS (r : ℝ) (n d : Row) (s : ℝ) : Row := fun k => r * (d k - s / 1024 - n k * ((∑ l, d l * n l) / 1024))

theorem pay27 (r : Fin 256 → ℝ) (N : Fin 256 → Row) (s : Fin 256 → ℝ) : k0_pay27 (F := Ideal) (up2 (col r)) (up2 N) (up2 X) (up2 (col s))
    (up2 (a := 256) (b := 1) fun _ _ => 1024) = up2 fun i => pullS (r i) (N i) (X i) (s i) := by
  funext y; idx_vars y
  pointwise [k0_pay27]
  simp only [at2, bits_1024, ← EReal.coe_mul, coe_sum]
  rw [coe_div _ _ (by norm_num), coe_div _ _ (by norm_num)]
  simp only [← EReal.coe_mul, ← EReal.coe_sub]; rfl

theorem pay28 (r : Fin 256 → ℝ) (N : Fin 256 → Row) (s : Fin 256 → ℝ) : k0_pay28 (F := Ideal) (up2 (col r)) (up2 N) (up2 X) (up2 (col s))
    (up2 (a := 256) (b := 1) fun _ _ => 1024) = up2 fun i => pullS (r i) (N i) (X i) (s i) := by
  funext y; idx_vars y
  unfold k0_pay28; rw [pay27]; pointwise

theorem pay29 (r : Fin 256 → ℝ) (N : Fin 256 → Row) (s : Fin 256 → ℝ) (R : Fin 1 → Row) : k0_pay29 (F := Ideal) (up2 (col r)) (up2 N) (up2 X) (up2 (col s))
    (up2 (a := 256) (b := 1) fun _ _ => 1024) (up2 R) = up2 fun i k => R i k + ∑ t, pullS (r t) (N t) (X t) (s t) k := by
  funext y; idx_vars y
  unfold k0_pay29; rw [pay27]; pointwise
  simp only [at2, coe_sum, ← EReal.coe_add]

theorem pay30 (W : Fin 1024 → Fin 1024 → ℝ) : k0_pay30 (F := Ideal) (up2 X) (up2 W) = up2 fun i j => ∑ k, X i k * W j k := by
  funext y; idx_vars y
  pointwise [k0_pay30]
  simp only [at2, ← EReal.coe_mul, coe_sum]

theorem pay31 (W : Fin 1024 → Fin 1024 → ℝ) (R : Fin 1 → Row) : k0_pay31 (F := Ideal) (up2 X) (up2 W) (up2 R) (up2 Y) =
    up2 fun i k => R i k + ∑ t, (∑ l, X t l * W k l) * Y t k := by
  funext y; idx_vars y
  unfold k0_pay31; rw [pay30]; pointwise
  simp only [at2, ← EReal.coe_mul, coe_sum, ← EReal.coe_add]

theorem pay32 (R : Fin 1 → Row) : k0_pay32 (F := Ideal) (up2 R) = up2 R := by
  funext y; idx_vars y
  pointwise [k0_pay32]

theorem pay33 (g : Row) : k0_pay33 (F := Ideal) (up2 X) (up2 (row g)) = up2 fun i k => X i k * g k := by
  funext y; idx_vars y
  pointwise [k0_pay33]
  simp only [at2, ← EReal.coe_mul]; rfl

variable (A : Fin 256 → Fin 256 → ℝ) (W : Fin 1 → Fin 256 → Fin 256 → ℝ)

theorem pay34 : k0_pay34 (F := Ideal) (up2 A) (up3 W) = up2 fun i j => ∑ l, A i l * W 0 j l := by
  funext y; idx_vars y
  pointwise [k0_pay34]
  simp only [at2, at3, ← EReal.coe_mul, coe_sum]
theorem pay35 : k0_pay35 (F := Ideal) (up2 A) (up3 W) = up2 fun i j => ∑ l, A i l * W 0 j l := pay34 A W
theorem pay36 : k0_pay36 (F := Ideal) (up2 A) (up3 W) = up2 fun i j => ∑ l, A i l * W 0 j l := pay34 A W
theorem pay37 : k0_pay37 (F := Ideal) (up2 A) = up2 A := by
  funext y; idx_vars y
  pointwise [k0_pay37]
theorem pay1 : k0_pay1 (F := Ideal) (up2 A) (up3 W) = up2 fun i j => ∑ l, A i l * W 0 j l := by
  funext y; idx_vars y
  pointwise [k0_pay1]
  simp only [at2, at3, ← EReal.coe_mul, coe_sum]

theorem pay2 : k0_pay2 (F := Ideal) = up2 (a := 8) (b := 1024) fun _ _ => 0 := by
  funext y; idx_vars y
  pointwise [k0_pay2]
  rw [at2, EReal.coe_zero]

end Cert.Mixing

end
-- ==== Proof.Reference.lean ====
/- The reference on finite arguments: each of its intermediate arrays is, row by row, a function of `Rows`. -/
module

public import proofs.«01_k».proof.Proof.Rows
public import proofs.«01_k».proof.Proof.Gen.ReferenceIdeal.Run
public import Idealize.ShloMosaic.Lib.Tactic.CleanTypes

@[expose] public section

set_option maxRecDepth 16384

noncomputable section

namespace Cert.Reference

open Idealize.ShloMosaic Cert.ReferenceIdeal Cert.ReferenceIdeal.Gen Cert.ReferenceIdeal.Value Cert.Lift Cert.Rows

theorem at1 {a : ℕ} (X : Fin a → ℝ) (i : Fin a) : up1 X (ix1 i) = ((X i : ℝ) : EReal) := by
  rw [up1]; rfl
theorem at2 {a b : ℕ} (X : Fin a → Fin b → ℝ) (i : Fin a) (j : Fin b) : up2 X (ix2 i j) = ((X i j : ℝ) : EReal) := by
  rw [up2]; rfl
theorem max_zero (x : ℝ) : max (x : EReal) 0 = ((max x 0 : ℝ) : EReal) := by
  rw [← EReal.coe_zero, coe_max]

/-- The mean square of a row, plus `eps`. -/
def ms (x : Row) : ℝ := (∑ k, x k * x k) / 1024 + eps

theorem ms_gt (x : Row) : 0 < ms x := ms_pos x 1024 (by norm_num)
theorem ms_ne (x : Row) : ms x ≠ 0 := (ms_gt x).ne'

theorem inv_ms (x : Row) : inv x / ms x = inv x * inv x * inv x := by
  have h : inv x * inv x = (ms x)⁻¹ := by
    exact (mul_inv _ _).symm.trans (congrArg _ (Real.mul_self_sqrt (ms_gt x).le))
  rw [h, div_eq_mul_inv, mul_comm]

/-- What the derivative of the reciprocal root adds, for either factor of a row's square. -/
def corr (x d : Row) : ℝ := (∑ l, x l * d l) * (-1 / 2 * (inv x / ms x)) / 1024

/-- The gradient of the norm by the product rule, its terms in any order. -/
theorem pull_eq (x d : Row) (k : Fin 1024) : d k * inv x + x k * corr x d + corr x d * x k = pull x d k := by
  have h : ∑ l, d l * unit x l = (∑ l, x l * d l) * inv x := by
    rw [Finset.sum_mul]; exact Finset.sum_congr rfl fun l _ => by unfold unit; ring
  unfold pull corr
  rw [h, inv_ms]; unfold unit; ring

/-- Where a hidden unit is cut off it passes no gradient: its value there is zero. -/
theorem relu_grad (x g : ℝ) (r : ℝ) (hr : r = g * (2 * max x 0)) :
    (if 0 < (x : EReal) then ((g * (2 * max x 0) : ℝ) : EReal) else 0) = (r : EReal) := by
  subst hr
  split_ifs with h
  · rfl
  · rw [max_eq_right (not_lt.mp fun hx => h (by exact_mod_cast hx))]; simp

variable (P : Weights) (H T : Fin 4096 → Row)

/-- The arguments are the finite arrays of these names. -/
structure Holds (V : Valuation τ sig (Elt Ideal)) : Prop where
  h : V (Proc.devRef .tc main_arg0) = up2 H
  t : V (Proc.devRef .tc main_arg1) = up2 T
  g3 : V (Proc.devRef .tc main_arg2) = up1 P.g3
  g4 : V (Proc.devRef .tc main_arg3) = up1 P.g4
  w1 : V (Proc.devRef .tc main_arg4) = up2 P.w1
  w2 : V (Proc.devRef .tc main_arg5) = up2 P.w2

variable {P H T} {V : Valuation τ sig (Elt Ideal)} (A : Holds P H T V)
include A

theorem v6 : res_main_v6 V = up2 (b := 1) fun i _ => ms (H i) := by
  unfold res_main_v6; rw [A.h]
  funext y; clean_types; idx_vars y; pointwise
  simp only [at2, bits_1024, bits_eps, ← EReal.coe_mul, coe_sum]
  rw [coe_div _ _ (by norm_num), ← EReal.coe_add]; rfl

theorem v7 : res_main_v7 V = up2 (b := 1) fun i _ => inv (H i) := by
  unfold res_main_v7; rw [v6 A]
  funext y; clean_types; idx_vars y; pointwise
  rw [at2, coe_rsqrt _ (ms_gt _)]; rfl

theorem v12 : res_main_v12 V = up2 fun i => unit (H i) := by
  unfold res_main_v12; rw [A.h, v7 A]
  funext y; clean_types; idx_vars y; pointwise
  simp only [at2, ← EReal.coe_mul]; rfl

theorem v13 : res_main_v13 V = up2 (a := 1) fun _ => P.g3 := by
  unfold res_main_v13; rw [A.g3]
  funext y; clean_types; idx_vars y; pointwise
  simp only [at2, at1]

theorem v15 : res_main_v15 V = up2 fun i => v P (H i) := by
  unfold res_main_v15; rw [v12 A, v13 A]
  funext y; clean_types; idx_vars y; pointwise
  simp only [at2, ← EReal.coe_mul]; rfl

theorem v16 : res_main_v16 V = up2 fun i j => ∑ k, v P (H i) k * P.w1 k j := by
  unfold res_main_v16; rw [v15 A, A.w1]
  funext y; clean_types; idx_vars y; pointwise
  simp only [at2, ← EReal.coe_mul, coe_sum]

theorem v17 : res_main_v17 V = up2 fun i => f1 P (H i) := by
  unfold res_main_v17; rw [v16 A]
  funext y; clean_types; idx_vars y; pointwise
  simp only [at2, max_zero]; rfl

theorem v21 : res_main_v21 V = up2 fun i => a2 P (H i) := by
  unfold res_main_v21; rw [v17 A]
  funext y; clean_types; idx_vars y; pointwise
  simp only [at2, ← EReal.coe_mul]; rfl

theorem v24 : res_main_v24 V = up2 fun i => f2 P (H i) := by
  unfold res_main_v24; rw [v21 A, A.w2]
  funext y; clean_types; idx_vars y; pointwise
  simp only [at2, ← EReal.coe_mul, coe_sum]; rfl

theorem v31 : res_main_v31 V = up2 (b := 1) fun i _ => ms (f2 P (H i)) := by
  unfold res_main_v31; rw [v24 A]
  funext y; clean_types; idx_vars y; pointwise
  simp only [at2, bits_1024, bits_eps, ← EReal.coe_mul, coe_sum]
  rw [coe_div _ _ (by norm_num), ← EReal.coe_add]; rfl

theorem v32 : res_main_v32 V = up2 (b := 1) fun i _ => inv (f2 P (H i)) := by
  unfold res_main_v32; rw [v31 A]
  funext y; clean_types; idx_vars y; pointwise
  rw [at2, coe_rsqrt _ (ms_gt _)]; rfl

theorem v37 : res_main_v37 V = up2 fun i => unit (f2 P (H i)) := by
  unfold res_main_v37; rw [v24 A, v32 A]
  funext y; clean_types; idx_vars y; pointwise
  simp only [at2, ← EReal.coe_mul]; rfl

theorem v38 : res_main_v38 V = up2 (a := 1) fun _ => P.g4 := by
  unfold res_main_v38; rw [A.g4]
  funext y; clean_types; idx_vars y; pointwise
  simp only [at2, at1]

theorem v42 : res_main_v42 V = up2 fun i => err P (H i) (T i) := by
  unfold res_main_v42; rw [A.h, A.t, v37 A, v38 A]
  funext y; clean_types; idx_vars y; pointwise
  simp only [at2, ← EReal.coe_mul, ← EReal.coe_add, ← EReal.coe_sub]; rfl

theorem v56 : res_main_v56 V = up2 fun i => dh2 P (H i) (T i) := by
  unfold res_main_v56; rw [v42 A]
  funext y; clean_types; idx_vars y; pointwise
  simp only [at2, bits_half, bits_two, bits_1024]
  rw [coe_div _ _ (by norm_num), ← EReal.coe_mul, ← EReal.coe_mul]
  exact congrArg _ (by unfold dh2; ring)

theorem v61 : res_main_v61 V = up2 fun i k => dh2 P (H i) (T i) k * P.g4 k := by
  unfold res_main_v61; rw [v56 A, v38 A]
  funext y; clean_types; idx_vars y; pointwise
  simp only [at2, ← EReal.coe_mul]

theorem v72 : res_main_v72 V = up2 (b := 1024) fun i _ => corr (f2 P (H i)) fun k => dh2 P (H i) (T i) k * P.g4 k := by
  unfold res_main_v72; rw [v24 A, v61 A, v32 A, v31 A]
  funext y; clean_types; idx_vars y; pointwise
  simp only [at2, bits_neg_half, bits_1024, ← EReal.coe_mul, coe_sum]
  rw [coe_div _ _ (ms_ne _), ← EReal.coe_mul, ← EReal.coe_mul, coe_div _ _ (by norm_num), Fin.sum_univ_one]; rfl

theorem v76 : res_main_v76 V = up2 fun i => df2 P (H i) (T i) := by
  unfold res_main_v76; rw [v61 A, v32 A, v24 A, v72 A]
  funext y; clean_types; idx_vars y; pointwise
  simp only [at2, ← EReal.coe_mul, ← EReal.coe_add]
  exact congrArg _ (pull_eq (f2 P (H y0)) (fun k => dh2 P (H y0) (T y0) k * P.g4 k) y1)

theorem v80 : res_main_v80 V = up2 fun i => df1 P (H i) (T i) := by
  unfold res_main_v80; rw [v16 A, v76 A, A.w2, v17 A]
  funext y; clean_types; idx_vars y; pointwise
  simp only [at2, bits_two, ← EReal.coe_mul, coe_sum]
  exact relu_grad _ _ _ rfl

theorem v81 : res_main_v81 V = up2 fun i => dv P (H i) (T i) := by
  unfold res_main_v81; rw [v80 A, A.w1]
  funext y; clean_types; idx_vars y; pointwise
  simp only [at2, ← EReal.coe_mul, coe_sum]; rfl

theorem v86 : res_main_v86 V = up2 fun i k => dv P (H i) (T i) k * P.g3 k := by
  unfold res_main_v86; rw [v81 A, v13 A]
  funext y; clean_types; idx_vars y; pointwise
  simp only [at2, ← EReal.coe_mul]

theorem v97 : res_main_v97 V = up2 (b := 1024) fun i _ => corr (H i) fun k => dv P (H i) (T i) k * P.g3 k := by
  unfold res_main_v97; rw [A.h, v86 A, v7 A, v6 A]
  funext y; clean_types; idx_vars y; pointwise
  simp only [at2, bits_neg_half, bits_1024, ← EReal.coe_mul, coe_sum]
  rw [coe_div _ _ (ms_ne _), ← EReal.coe_mul, ← EReal.coe_mul, coe_div _ _ (by norm_num), Fin.sum_univ_one]; rfl

theorem v116 : res_main_v116 V = up2 fun i => err P (H i) (T i) := by
  have e : res_main_v116 V = res_main_v42 V := rfl
  rw [e, v42 A]

theorem out_dh1 : addf (res_main_v56 V) (addf (addf (mulf (res_main_v86 V) (broadcastInDim S4096x1024 ![0, 1] bcast_S4096x1_S4096x1024_0_1 (res_main_v7 V)))
    (mulf (V (Proc.devRef .tc main_arg0)) (res_main_v97 V))) (mulf (res_main_v97 V) (V (Proc.devRef .tc main_arg0)))) = up2 fun i => dh1 P (H i) (T i) := by
  rw [v56 A, v86 A, v7 A, v97 A, A.h]
  funext y; clean_types; idx_vars y; pointwise
  simp only [at2, ← EReal.coe_mul, ← EReal.coe_add]
  refine congrArg _ ?_
  rw [pull_eq (H y0) (fun k => dv P (H y0) (T y0) k * P.g3 k) y1]; rfl

theorem out_vec : (concatenate S8x1024 0 [⟨S1x1024, ((broadcastInDim S1x1024 ![1] bcast_S1024_S1x1024_1 (Host.reduceAdd (shapeCast _ (Host.reduceAdd (mulf (res_main_v12 V) (res_main_v81 V)) (constant S_ .f32 0x00000000#32) reducesTo_S4096x1024_S1024_d0 h_S_) shapeCasts_S1024_S1x1024) (constant S_ .f32 0x00000000#32) reducesTo_S1x1024_S1024_d0 h_S_)) : (⟨S1x1024, .f32⟩ : BufTy).Contents (Elt Ideal))⟩,
    ⟨S1x1024, ((broadcastInDim S1x1024 ![1] bcast_S1024_S1x1024_1 (Host.reduceAdd (shapeCast _ (Host.reduceAdd (mulf (res_main_v37 V) (res_main_v56 V)) (constant S_ .f32 0x00000000#32) reducesTo_S4096x1024_S1024_d0 h_S_) shapeCasts_S1024_S1x1024) (constant S_ .f32 0x00000000#32) reducesTo_S1x1024_S1024_d0 h_S_)) : (⟨S1x1024, .f32⟩ : BufTy).Contents (Elt Ideal))⟩,
    ⟨S1x1024, ((broadcastInDim S1x1024 ![1] bcast_S1024_S1x1024_1 (mulf (broadcastInDim S1024 ![] bcast_S_S1024 (constant S_ .f32 0x3A000000#32)) (Host.reduceAdd (mulf (res_main_v116 V) (res_main_v116 V)) (constant S_ .f32 0x00000000#32) reducesTo_S4096x1024_S1024_d0 h_S_))) : (⟨S1x1024, .f32⟩ : BufTy).Contents (Elt Ideal))⟩,
    ⟨S5x1024, ((broadcastInDim S5x1024 ![] bcast_S_S5x1024 (constant (F := Ideal) S_ .f32 0x00000000#32)) : (⟨S5x1024, .f32⟩ : BufTy).Contents (Elt Ideal))⟩] concatenates_S1x1024_S1x1024_S1x1024_S5x1024_S8x1024_d0 : (⟨S8x1024, .f32⟩ : BufTy).Contents (Elt Ideal)) =
    up2 (vec P H T) := by
  rw [v12 A, v81 A, v37 A, v56 A, v116 A]
  funext y; clean_types; idx_vars y; pointwise
  simp only [at2, bits_1_2048, ← EReal.coe_mul, coe_sum]
  simp only [Fin.sum_univ_one, mul_comm (unit _ y1), mul_comm (1 / 2048 : ℝ)]
  unfold vec
  fin_cases y0 <;> simp

end Cert.Reference

end
-- ==== Proof.Mix.Reference.lean ====
/- The reference on finite arguments: each of its intermediate arrays is, token by token, a function of `Rows`. -/
module

public import proofs.«01_k».proof.Proof.Mix.Payloads
public import proofs.«01_k».proof.Proof.Reference
public import proofs.«01_k».proof.Proof.Gen.MixRefIdeal.Run

@[expose] public section

set_option maxRecDepth 16384

noncomputable section

namespace Cert.Mixing

open Idealize.ShloMosaic Cert.MixRefIdeal Cert.MixRefIdeal.Gen Cert.MixRefIdeal.Value Cert.Lift Cert.Rows
open Cert.Reference (ms ms_ne ms_gt inv_ms corr pull_eq)

theorem rstd_var (x : Row) : rstd x / var x = rstd x * rstd x * rstd x := by
  have h : rstd x * rstd x = (var x)⁻¹ := by
    exact (mul_inv _ _).symm.trans (congrArg _ (Real.mul_self_sqrt (var_pos x).le))
  rw [h, div_eq_mul_inv, mul_comm]

theorem sum_cen (x : Row) : ∑ k, cen x k = 0 := by
  unfold cen mean
  rw [Finset.sum_sub_distrib, Finset.sum_const, Finset.card_univ, Fintype.card_fin, nsmul_eq_mul]
  push_cast; ring

/-- What the derivative of the reciprocal root adds, for the square of a row about its mean. -/
def corrN (x d : Row) : ℝ := (∑ l, cen x l * d l) * (-1 / 2 * (rstd x / var x)) / 1024

/-- The gradient of the layer norm by the product rule and through the mean. -/
theorem pullN_eq (x d : Row) (k : Fin 1024) : d k * rstd x + corrN x d * (2 * cen x k) +
    (∑ l, -(d l * rstd x) + ∑ l, -(corrN x d * (2 * cen x l))) / 1024 = pullN x d k := by
  have h : ∑ l, d l * nrm x l = (∑ l, cen x l * d l) * rstd x := by
    rw [Finset.sum_mul]; exact Finset.sum_congr rfl fun l _ => by unfold nrm; ring
  rw [Finset.sum_neg_distrib, Finset.sum_neg_distrib, ← Finset.mul_sum, ← Finset.mul_sum, ← Finset.sum_mul, sum_cen]
  unfold pullN corrN
  rw [h, rstd_var]; unfold nrm; ring

variable (P : Params) (S : Fin 4096 → Token)

/-- The arguments are the finite arrays of these names. -/
structure Holds (V : Valuation τ sig (Elt Ideal)) : Prop where
  d : V (Proc.devRef .tc main_arg0) = up2 fun i => (S i).d
  u : V (Proc.devRef .tc main_arg1) = up2 fun i => (S i).u
  z : V (Proc.devRef .tc main_arg2) = up2 fun i => (S i).z
  gt : V (Proc.devRef .tc main_arg3) = up2 fun i => (S i).gt
  lg : V (Proc.devRef .tc main_arg4) = up1 P.lg
  lb : V (Proc.devRef .tc main_arg5) = up1 P.lb
  wco : V (Proc.devRef .tc main_arg6) = up2 P.wco
  pw : V (Proc.devRef .tc main_arg7) = up3 P.pw
  ps : V (Proc.devRef .tc main_arg8) = up1 P.ps
  wpo : V (Proc.devRef .tc main_arg9) = up2 P.wpo
  wo : V (Proc.devRef .tc main_arg10) = up2 P.wo
  g2 : V (Proc.devRef .tc main_arg11) = up1 P.g2

variable {P S} {V : Valuation τ sig (Elt Ideal)} (A : Holds P S V)
include A

theorem v3 : res_main_v3 V = up2 (b := 1) fun i _ => mean (S i).u := by
  unfold res_main_v3; rw [A.u]
  funext y; clean_types; idx_vars y; pointwise
  simp only [at2, bits_1024, coe_sum]
  rw [coe_div _ _ (by norm_num)]; rfl

theorem v5 : res_main_v5 V = up2 fun i => cen (S i).u := by
  unfold res_main_v5; rw [A.u, v3 A]
  funext y; clean_types; idx_vars y; pointwise
  simp only [at2, ← EReal.coe_sub]; rfl

theorem v14 : res_main_v14 V = up2 fun i => cen (S i).u := by
  unfold res_main_v14; rw [A.u, v3 A]
  funext y; clean_types; idx_vars y; pointwise
  simp only [at2, ← EReal.coe_sub]; rfl

theorem v16 : res_main_v16 V = up2 (b := 1) fun i _ => var (S i).u := by
  unfold res_main_v16; rw [v5 A]
  funext y; clean_types; idx_vars y; pointwise
  simp only [at2, bits_1024, bits_eps5, ← EReal.coe_mul, coe_sum]
  rw [coe_div _ _ (by norm_num), ← EReal.coe_add]; rfl

theorem v17 : res_main_v17 V = up2 (b := 1) fun i _ => rstd (S i).u := by
  unfold res_main_v17; rw [v16 A]
  funext y; clean_types; idx_vars y; pointwise
  rw [at2, coe_rsqrt _ (var_pos _)]; rfl

theorem v22 : res_main_v22 V = up2 fun i => nrm (S i).u := by
  unfold res_main_v22; rw [v14 A, v17 A]
  funext y; clean_types; idx_vars y; pointwise
  simp only [at2, ← EReal.coe_mul]; rfl

theorem v23 : res_main_v23 V = up2 (row P.lg) := by
  unfold res_main_v23; rw [A.lg]
  funext y; clean_types; idx_vars y; pointwise
  simp only [at2, at1]; rfl

theorem v28 : res_main_v28 V = up2 fun i => ln P (S i) := by
  unfold res_main_v28; rw [v22 A, v23 A, A.lb]
  funext y; clean_types; idx_vars y; pointwise
  simp only [at2, at1, ← EReal.coe_mul, ← EReal.coe_add]; rfl

theorem v29_2 : res_main_v29_2 V = up2 fun i k => sgm (ln P (S i) k) := by
  unfold res_main_v29_2; rw [v28 A]
  funext y; clean_types; idx_vars y; pointwise
  simp only [at2, ← EReal.coe_neg, coe_sig]

theorem v30 : res_main_v30 V = up2 fun i => yc P (S i) := by
  unfold res_main_v30; rw [v28 A, v29_2 A, A.wco]
  funext y; clean_types; idx_vars y; pointwise
  simp only [at2, ← EReal.coe_mul, coe_sum]; rfl

theorem v34 : res_main_v34 V = up2 fun i => zl P (S i) := by
  unfold res_main_v34; rw [A.pw, A.z]
  funext y; clean_types; idx_vars y; pointwise
  simp only [at2, at3, ← EReal.coe_mul, coe_sum, mul_comm (P.pw _ _ _)]; rfl

theorem v35 : res_main_v35 V = up2 (row P.ps) := by
  unfold res_main_v35; rw [A.ps]
  funext y; clean_types; idx_vars y; pointwise
  simp only [at2, at1]; rfl

theorem v38 : res_main_v38 V = up2 fun i => yp P (S i) := by
  unfold res_main_v38; rw [v34 A, v35 A, A.wpo]
  funext y; clean_types; idx_vars y; pointwise
  simp only [at2, ← EReal.coe_mul, coe_sum]; rfl

theorem v44 : res_main_v44 V = up2 fun i j => sgm ((S i).gt j) := by
  unfold res_main_v44; rw [A.gt]
  funext y; clean_types; idx_vars y; pointwise
  simp only [at2, ← EReal.coe_neg, coe_sig]

theorem v48 : res_main_v48 V = up2 fun i => gc (S i) := by
  unfold res_main_v48; rw [v44 A]
  funext y; clean_types; idx_vars y; pointwise
  simp only [at2]; rfl

theorem v49 : res_main_v49 V = up2 fun i => gp (S i) := by
  unfold res_main_v49; rw [v44 A]
  funext y; clean_types; idx_vars y; pointwise
  simp only [at2]; rfl

theorem v53 : res_main_v53 V = up2 fun i => mo P (S i) := by
  unfold res_main_v53; rw [v48 A, v30 A, v49 A, v38 A, A.wo]
  funext y; clean_types; idx_vars y; pointwise
  simp only [at2, ← EReal.coe_mul, ← EReal.coe_add, coe_sum]; rfl

theorem v60 : res_main_v60 V = up2 (b := 1) fun i _ => ms (mo P (S i)) := by
  unfold res_main_v60; rw [v53 A]
  funext y; clean_types; idx_vars y; pointwise
  simp only [at2, bits_1024, bits_eps, ← EReal.coe_mul, coe_sum]
  rw [coe_div _ _ (by norm_num), ← EReal.coe_add]; rfl

theorem v61 : res_main_v61 V = up2 (b := 1) fun i _ => inv (mo P (S i)) := by
  unfold res_main_v61; rw [v60 A]
  funext y; clean_types; idx_vars y; pointwise
  rw [at2, coe_rsqrt _ (ms_gt _)]; rfl

theorem v66 : res_main_v66 V = up2 fun i => unit (mo P (S i)) := by
  unfold res_main_v66; rw [v53 A, v61 A]
  funext y; clean_types; idx_vars y; pointwise
  simp only [at2, ← EReal.coe_mul]; rfl

theorem v67 : res_main_v67 V = up2 (row P.g2) := by
  unfold res_main_v67; rw [A.g2]
  funext y; clean_types; idx_vars y; pointwise
  simp only [at2, at1]; rfl

theorem v74 : res_main_v74 V = up2 fun i k => (S i).d k * P.g2 k := by
  unfold res_main_v74; rw [A.d, v67 A]
  funext y; clean_types; idx_vars y; pointwise
  simp only [at2, ← EReal.coe_mul]; rfl

theorem v85 : res_main_v85 V = up2 (b := 1024) fun i _ => corr (mo P (S i)) fun k => (S i).d k * P.g2 k := by
  unfold res_main_v85; rw [v53 A, v74 A, v61 A, v60 A]
  funext y; clean_types; idx_vars y; pointwise
  simp only [at2, bits_neg_half, bits_1024, ← EReal.coe_mul, coe_sum]
  rw [coe_div _ _ (ms_ne _), ← EReal.coe_mul, ← EReal.coe_mul, coe_div _ _ (by norm_num), Fin.sum_univ_one]; rfl

theorem v89 : res_main_v89 V = up2 fun i => dmo P (S i) := by
  unfold res_main_v89; rw [v74 A, v61 A, v53 A, v85 A]
  funext y; clean_types; idx_vars y; pointwise
  simp only [at2, ← EReal.coe_mul, ← EReal.coe_add]
  exact congrArg _ (pull_eq (mo P (S y0)) (fun k => (S y0).d k * P.g2 k) y1)

theorem v90 : res_main_v90 V = up2 fun i => dmg P (S i) := by
  unfold res_main_v90; rw [v89 A, A.wo]
  funext y; clean_types; idx_vars y; pointwise
  simp only [at2, ← EReal.coe_mul, coe_sum]; rfl

theorem v91 : res_main_v91 V = up2 fun i => dyp P (S i) := by
  unfold res_main_v91; rw [v49 A, v90 A]
  funext y; clean_types; idx_vars y; pointwise
  simp only [at2, ← EReal.coe_mul]
  exact congrArg _ (mul_comm _ _)

theorem v93 : res_main_v93 V = up2 fun i => dyc P (S i) := by
  unfold res_main_v93; rw [v48 A, v90 A]
  funext y; clean_types; idx_vars y; pointwise
  simp only [at2, ← EReal.coe_mul]
  exact congrArg _ (mul_comm _ _)

theorem v97 : res_main_v97 V = up2 fun i => dsw P (S i) := by
  unfold res_main_v97; rw [v93 A, A.wco]
  funext y; clean_types; idx_vars y; pointwise
  simp only [at2, ← EReal.coe_mul, coe_sum]; rfl

theorem v98 : res_main_v98 V = up2 fun i => dln P (S i) := by
  unfold res_main_v98; rw [v97 A, v29_2 A, v28 A]
  funext y; clean_types; idx_vars y; pointwise
  simp only [at2, one_sub_coe, ← EReal.coe_mul, ← EReal.coe_add]
  exact congrArg _ (by unfold dln; ring)

theorem v106 : res_main_v106 V = up2 fun i k => dln P (S i) k * P.lg k := by
  unfold res_main_v106; rw [v98 A, v23 A]
  funext y; clean_types; idx_vars y; pointwise
  simp only [at2, ← EReal.coe_mul]; rfl

theorem v112 : res_main_v112 V = up2 fun i k => dln P (S i) k * P.lg k * rstd (S i).u := by
  unfold res_main_v112; rw [v106 A, v17 A]
  funext y; clean_types; idx_vars y; pointwise
  simp only [at2, ← EReal.coe_mul]

theorem v121 : res_main_v121 V = up2 fun i k => corrN (S i).u (fun k => dln P (S i) k * P.lg k) * (2 * cen (S i).u k) := by
  unfold res_main_v121; rw [v14 A, v106 A, v17 A, v16 A, v5 A]
  funext y; clean_types; idx_vars y; pointwise
  simp only [at2, bits_two, bits_neg_half, bits_1024, ← EReal.coe_mul, coe_sum]
  rw [coe_div _ _ (var_pos _).ne', ← EReal.coe_mul, ← EReal.coe_mul, coe_div _ _ (by norm_num), Fin.sum_univ_one, ← EReal.coe_mul]; rfl

theorem v131 : res_main_v131 V = up2 fun i => dcv P (S i) := by
  unfold res_main_v131; rw [v112 A, v121 A]
  funext y; clean_types; idx_vars y; pointwise
  simp only [at2, bits_1024, ← EReal.coe_neg, coe_sum, ← EReal.coe_add]
  rw [coe_div _ _ (by norm_num), Fin.sum_univ_one, ← EReal.coe_add]
  exact congrArg _ (pullN_eq (S y0).u (fun k => dln P (S y0) k * P.lg k) y1)

theorem v132 : res_main_v132 V = up2 fun i => dzs P (S i) := by
  unfold res_main_v132; rw [v91 A, A.wpo]
  funext y; clean_types; idx_vars y; pointwise
  simp only [at2, ← EReal.coe_mul, coe_sum]; rfl

theorem v137 : res_main_v137 V = up2 fun i => dzl P (S i) := by
  unfold res_main_v137; rw [v132 A, v35 A]
  funext y; clean_types; idx_vars y; pointwise
  simp only [at2, ← EReal.coe_mul]; rfl

omit A in
/-- Rounding to a narrower format changes nothing. -/
theorem trunc {a b : ℕ} (X : Fin a → Fin b → ℝ) : truncf (F := Ideal) .bf16 (up2 X) bitsLt_bf16_f32 = up2 X := by
  funext y; pointwise

theorem out_dgt : truncf .bf16 (mulf (concatenate S4096x2048 1 [⟨S4096x1024, (mulf (res_main_v90 V) (res_main_v30 V))⟩, ⟨S4096x1024, (mulf (res_main_v90 V) (res_main_v38 V))⟩] concatenates_S4096x1024_S4096x1024_S4096x2048_d1) (mulf (res_main_v44 V) (subf (broadcastInDim S4096x2048 ![] bcast_S_S4096x2048 (constant (F := Ideal) S_ .f32 0x3F800000#32)) (res_main_v44 V)))) bitsLt_bf16_f32 =
    up2 fun i => dgt P (S i) := by
  rw [v90 A, v30 A, v38 A, v44 A]
  funext y; clean_types; idx_vars y; pointwise
  simp only [at2, one_sub_coe, ← EReal.coe_mul]
  unfold dgt
  by_cases h : y1.val < 1024
  · rw [dif_pos h, dif_pos h, ← EReal.coe_mul]
    exact congrArg _ (mul_assoc _ _ _).symm
  · have e : rgt ⟨y1.val - 1024, by omega⟩ = y1 := Fin.ext (by show 1024 + (y1.val - 1024) = y1.val; omega)
    rw [dif_neg h, dif_neg h, ← EReal.coe_mul]
    unfold dgp gp
    rw [e, mul_assoc (_ * _) (sgm _)]

theorem out_dz : truncf .bf16 (shapeCast _ (transpose S4096x4x256 [1, 0, 2] (Host.dotGeneral (φ₂ := .f32) dot_S4x256x4096_S4x256x256_S4x4096x256_1_2_2_1_0_0 none (transpose S4x256x4096 [1, 2, 0] (shapeCast _ (res_main_v137 V) shapeCasts_S4096x1024_S4096x4x256) transposes_S4096x4x256_S4x256x4096_1_2_0) (V (Proc.devRef .tc main_arg7))) transposes_S4x4096x256_S4096x4x256_1_0_2) shapeCasts_S4096x4x256_S4096x1024) bitsLt_bf16_f32 =
    up2 fun i => dz P (S i) := by
  rw [v137 A, A.pw]
  funext y; clean_types; idx_vars y; pointwise
  simp only [at2, at3, ← EReal.coe_mul, coe_sum]; rfl

theorem out_vec : (concatenate S8x1024 0 [⟨S1x1024, ((broadcastInDim S1x1024 ![1] bcast_S1024_S1x1024_1 (Host.reduceAdd (shapeCast _ (Host.reduceAdd (mulf (res_main_v66 V) (V (Proc.devRef .tc main_arg0))) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩,
    ⟨S1x1024, ((broadcastInDim S1x1024 ![1] bcast_S1024_S1x1024_1 (Host.reduceAdd (shapeCast _ (Host.reduceAdd (mulf (res_main_v22 V) (res_main_v98 V)) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩,
    ⟨S1x1024, ((broadcastInDim S1x1024 ![1] bcast_S1024_S1x1024_1 (Host.reduceAdd (shapeCast _ (Host.reduceAdd (res_main_v98 V) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩,
    ⟨S1x1024, ((broadcastInDim S1x1024 ![1] bcast_S1024_S1x1024_1 (Host.reduceAdd (res_main_v131 V) (constant (F := Ideal) S_ .f32 0x00000000#32) reducesTo_S4096x1024_S1024_d0 h_S_)) : (⟨S1x1024, .f32⟩ : BufTy).Contents (Elt Ideal))⟩,
    ⟨S1x1024, ((broadcastInDim S1x1024 ![1] bcast_S1024_S1x1024_1 (Host.reduceAdd (shapeCast _ (Host.reduceAdd (mulf (res_main_v34 V) (res_main_v132 V)) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S3x1024, ((broadcastInDim S3x1024 ![] bcast_S_S3x1024 (constant (F := Ideal) S_ .f32 0x00000000#32)) : (⟨S3x1024, .f32⟩ : BufTy).Contents (Elt Ideal))⟩] concatenates_S1x1024_S1x1024_S1x1024_S1x1024_S1x1024_S3x1024_S8x1024_d0 : (⟨S8x1024, .f32⟩ : BufTy).Contents (Elt Ideal)) =
    up2 (vec P S) := by
  rw [v66 A, A.d, v22 A, v98 A, v131 A, v34 A, v132 A]
  funext y; clean_types; idx_vars y; pointwise
  simp only [at2, ← EReal.coe_mul, coe_sum, Fin.sum_univ_one]
  simp only [mul_comm (unit _ y1), mul_comm (nrm _ y1), mul_comm (zl _ _ y1)]
  unfold vec
  fin_cases y0 <;> simp

end Cert.Mixing

end
-- ==== Proof.Mix.Tiles.lean ====
/- What the kernel's point `t` reads, on finite arguments. -/
module

public import proofs.«01_k».proof.Proof.Mix.Reference
public import proofs.«01_k».proof.Proof.Gen.MixIdeal.Frame.Runs
public import Idealize.ShloMosaic.Lib.Pipeline.ValueKit
public import Idealize.ShloMosaic.Lib.Pipeline.ReadBack

@[expose] public section

set_option maxRecDepth 16384

noncomputable section

namespace Cert.Mixing

open Idealize.ShloMosaic Idealize.ShloMosaic.TcCoe Cert.MixIdeal Cert.MixIdeal.Gen Cert.Lift Cert.Rows

variable (P : Params) (S : Fin 4096 → Token)

/-- Device `c`'s arguments are the finite arrays of these names. -/
structure Given (m : (ℓ : Loc nD τ sig) → Buf (Elt Ideal) ℓ) (c : Dev nD) : Prop where
  d : m ((c : Thread nD τ).loc main_arg0) = up2 fun i => (S i).d
  u : m ((c : Thread nD τ).loc main_arg1) = up2 fun i => (S i).u
  z : m ((c : Thread nD τ).loc main_arg2) = up2 fun i => (S i).z
  gt : m ((c : Thread nD τ).loc main_arg3) = up2 fun i => (S i).gt
  lg : m ((c : Thread nD τ).loc main_arg4) = up1 P.lg
  lb : m ((c : Thread nD τ).loc main_arg5) = up1 P.lb
  wco : m ((c : Thread nD τ).loc main_arg6) = up2 P.wco
  pw : m ((c : Thread nD τ).loc main_arg7) = up3 P.pw
  ps : m ((c : Thread nD τ).loc main_arg8) = up1 P.ps
  wpo : m ((c : Thread nD τ).loc main_arg9) = up2 P.wpo
  wo : m ((c : Thread nD τ).loc main_arg10) = up2 P.wo
  g2 : m ((c : Thread nD τ).loc main_arg11) = up1 P.g2

/-- The 256 tokens of point `t`. -/
def toks (t : Fin cfg0.N) : Fin 256 → Token := fun i => S ⟨t.val * 256 + i.val, by have : t.val < 16 := t.isLt; omega⟩

/-- Every window's block index at every point. -/
theorem idx : ∀ t : Fin cfg0.N, (win0_0.index t = ![t.val, 0] ∧ win0_1.index t = ![t.val, 0] ∧ win0_2.index t = ![t.val, 0] ∧
    win0_3.index t = ![t.val, 0]) ∧ (win0_4.index t = ![t.val, 0] ∧ win0_5.index t = ![t.val, 0] ∧ win0_6.index t = ![t.val, 0] ∧
    win0_7.index t = ![0, 0]) ∧ (win0_8.index t = ![0, 0] ∧ win0_9.index t = ![0, 0] ∧ win0_10.index t = ![0, 0] ∧
    win0_11.index t = ![0, 0]) ∧ (win0_12.index t = ![0, 0, 0] ∧ win0_13.index t = ![0, 0] ∧ win0_14.index t = ![0, 0] ∧
    win0_15.index t = ![t.val, 0]) ∧ (win0_16.index t = ![t.val, 0] ∧ win0_17.index t = ![t.val, 0] ∧ win0_18.index t = ![t.val, 0] ∧
    win0_19.index t = ![t.val, 0]) ∧ (win0_20.index t = ![t.val, 0] ∧ win0_21.index t = ![t.val, 0] ∧ win0_22.index t = ![0, 0]) :=
  (by decide +kernel : ∀ t : Fin grid0.N, _)

variable {P S} {m : (ℓ : Loc nD τ sig) → Buf (Elt Ideal) ℓ} {c : Dev nD} (G : Given P S m c)
  {W : Valuation MixRefIdeal.τ MixRefIdeal.sig (Elt Ideal)} (B : Holds P S W)
include G B

set_option maxHeartbeats 8000000 in
/-- What the host code leaves in the buffers the kernel reads. -/
theorem host : V m c main_v45 = up2 (fun i => mo P (S i)) ∧ V m c main_v46 = up2 (fun i => zl P (S i)) ∧ V m c main_v47 = up2 (fun i => yc P (S i)) ∧
    V m c main_v48 = up2 (fun i => yp P (S i)) ∧ V m c main_v49 = up2 (fun i => (S i).gt) ∧ V m c main_v50 = up2 (row P.lg) ∧
    V m c main_v51 = up2 (row P.lb) ∧ V m c main_v52 = up2 (row P.ps) ∧ V m c main_v53 = up2 (row P.g2) ∧ V m c main_v54 = up2 P.wco ∧
    V m c main_v55 = up3 P.pw ∧ V m c main_v56 = up2 P.wpo ∧ V m c main_v57 = up2 P.wo := by
  have d : m (c, Proc.devRef .tc main_arg0) = _ := G.d
  have u : m (c, Proc.devRef .tc main_arg1) = _ := G.u
  have z : m (c, Proc.devRef .tc main_arg2) = _ := G.z
  have gt : m (c, Proc.devRef .tc main_arg3) = _ := G.gt
  have lg : m (c, Proc.devRef .tc main_arg4) = _ := G.lg
  have lb : m (c, Proc.devRef .tc main_arg5) = _ := G.lb
  have wco : m (c, Proc.devRef .tc main_arg6) = _ := G.wco
  have pw : m (c, Proc.devRef .tc main_arg7) = _ := G.pw
  have ps : m (c, Proc.devRef .tc main_arg8) = _ := G.ps
  have wpo : m (c, Proc.devRef .tc main_arg9) = _ := G.wpo
  have wo : m (c, Proc.devRef .tc main_arg10) = _ := G.wo
  have g2 : m (c, Proc.devRef .tc main_arg11) = _ := G.g2
  have e45 := v53 B
  have e46 := v34 B
  have e47 := v30 B
  have e48 := v38 B
  unfold MixRefIdeal.Value.res_main_v53 MixRefIdeal.Value.res_main_v48 MixRefIdeal.Value.res_main_v49 MixRefIdeal.Value.res_main_v44 at e45
  unfold MixRefIdeal.Value.res_main_v38 MixRefIdeal.Value.res_main_v35 at e45 e48
  unfold MixRefIdeal.Value.res_main_v34 at e45 e46 e48
  unfold MixRefIdeal.Value.res_main_v30 MixRefIdeal.Value.res_main_v29_2 MixRefIdeal.Value.res_main_v28 MixRefIdeal.Value.res_main_v23
    MixRefIdeal.Value.res_main_v22 MixRefIdeal.Value.res_main_v17 MixRefIdeal.Value.res_main_v16 MixRefIdeal.Value.res_main_v14
    MixRefIdeal.Value.res_main_v5 MixRefIdeal.Value.res_main_v3 at e45 e47
  rw [B.u, B.lg, B.lb, B.wco, B.pw, B.z, B.ps, B.wpo, B.wo, B.gt] at e45
  rw [B.pw, B.z] at e46
  rw [B.u, B.lg, B.lb, B.wco] at e47
  rw [B.pw, B.z, B.ps, B.wpo] at e48
  refine ⟨?_, ?_, ?_, ?_, ?_, ?_, ?_, ?_, ?_, ?_, ?_, ?_, ?_⟩ <;>
    (show StableHlo.after _ _ _ = _
     simp only [hostOps0, hostOps0_1, hostOps0_2, List.flatten_cons, List.flatten_nil, List.append_nil, List.cons_append, List.nil_append,
       StableHlo.TRef.binary, StableHlo.TRef.nullary, StableHlo.TRef.unary, StableHlo.TRef.toBuf, StableHlo.TRef.ofBuf, cast_eq]
     after_results_simp)
  · rw [u, lg, lb, wco, pw, z, ps, wpo, wo, gt]
    exact e45
  · rw [pw, z]
    exact e46
  · rw [u, lg, lb, wco]
    exact e47
  · rw [pw, z, ps, wpo]
    exact e48
  · rw [gt]; rfl
  · rw [lg]; funext y; idx_vars y; pointwise; rfl
  · rw [lb]; funext y; idx_vars y; pointwise; rfl
  · rw [ps]; funext y; idx_vars y; pointwise; rfl
  · rw [g2]; funext y; idx_vars y; pointwise; rfl
  · rw [wco]; rfl
  · rw [pw]; rfl
  · rw [wpo]; rfl
  · rw [wo]; rfl

theorem iblk0 (t : Fin cfg0.N) : iblk m c 0 t = up2 fun i => (toks S t i).d := by
  funext y
  have e : iblk m c 0 t y = V m c main_arg0 (ix2 ⟨t.val * 256 + (y 0).val, by
      have : t.val < 16 := t.isLt; have : (y 0).val < 256 := (y 0).isLt; omega⟩ (y 1)) := by
    blk_ext! [iblk, idx t]
  rw [e, V_main_arg0, G.d]; rfl

theorem iblk1 (t : Fin cfg0.N) : iblk m c 1 t = up2 fun i => mo P (toks S t i) := by
  funext y
  have e : iblk m c 1 t y = V m c main_v45 (ix2 ⟨t.val * 256 + (y 0).val, by
      have : t.val < 16 := t.isLt; have : (y 0).val < 256 := (y 0).isLt; omega⟩ (y 1)) := by
    blk_ext! [iblk, idx t]
  rw [e, (host G B).1]; rfl

theorem iblk2 (t : Fin cfg0.N) : iblk m c 2 t = up2 fun i => (toks S t i).u := by
  funext y
  have e : iblk m c 2 t y = V m c main_arg1 (ix2 ⟨t.val * 256 + (y 0).val, by
      have : t.val < 16 := t.isLt; have : (y 0).val < 256 := (y 0).isLt; omega⟩ (y 1)) := by
    blk_ext! [iblk, idx t]
  rw [e, V_main_arg1, G.u]; rfl

theorem iblk3 (t : Fin cfg0.N) : iblk m c 3 t = up2 fun i => zl P (toks S t i) := by
  funext y
  have e : iblk m c 3 t y = V m c main_v46 (ix2 ⟨t.val * 256 + (y 0).val, by
      have : t.val < 16 := t.isLt; have : (y 0).val < 256 := (y 0).isLt; omega⟩ (y 1)) := by
    blk_ext! [iblk, idx t]
  rw [e, (host G B).2.1]; rfl

theorem iblk4 (t : Fin cfg0.N) : iblk m c 4 t = up2 fun i => yc P (toks S t i) := by
  funext y
  have e : iblk m c 4 t y = V m c main_v47 (ix2 ⟨t.val * 256 + (y 0).val, by
      have : t.val < 16 := t.isLt; have : (y 0).val < 256 := (y 0).isLt; omega⟩ (y 1)) := by
    blk_ext! [iblk, idx t]
  rw [e, (host G B).2.2.1]; rfl

theorem iblk5 (t : Fin cfg0.N) : iblk m c 5 t = up2 fun i => yp P (toks S t i) := by
  funext y
  have e : iblk m c 5 t y = V m c main_v48 (ix2 ⟨t.val * 256 + (y 0).val, by
      have : t.val < 16 := t.isLt; have : (y 0).val < 256 := (y 0).isLt; omega⟩ (y 1)) := by
    blk_ext! [iblk, idx t]
  rw [e, (host G B).2.2.2.1]; rfl

theorem iblk6 (t : Fin cfg0.N) : iblk m c 6 t = up2 fun i => (toks S t i).gt := by
  funext y
  have e : iblk m c 6 t y = V m c main_v49 (ix2 ⟨t.val * 256 + (y 0).val, by
      have : t.val < 16 := t.isLt; have : (y 0).val < 256 := (y 0).isLt; omega⟩ (y 1)) := by
    blk_ext! [iblk, idx t]
  rw [e, (host G B).2.2.2.2.1]; rfl

theorem iblk7 (t : Fin cfg0.N) : iblk m c 7 t = up2 (row P.lg) := by
  rw [← (host G B).2.2.2.2.2.1]
  funext y
  blk_ext! [iblk, idx t]

theorem iblk8 (t : Fin cfg0.N) : iblk m c 8 t = up2 (row P.lb) := by
  rw [← (host G B).2.2.2.2.2.2.1]
  funext y
  blk_ext! [iblk, idx t]

theorem iblk9 (t : Fin cfg0.N) : iblk m c 9 t = up2 (row P.ps) := by
  rw [← (host G B).2.2.2.2.2.2.2.1]
  funext y
  blk_ext! [iblk, idx t]

theorem iblk10 (t : Fin cfg0.N) : iblk m c 10 t = up2 (row P.g2) := by
  rw [← (host G B).2.2.2.2.2.2.2.2.1]
  funext y
  blk_ext! [iblk, idx t]

theorem iblk11 (t : Fin cfg0.N) : iblk m c 11 t = up2 P.wco := by
  rw [← (host G B).2.2.2.2.2.2.2.2.2.1]
  funext y
  blk_ext! [iblk, idx t]

theorem iblk12 (t : Fin cfg0.N) : iblk m c 12 t = up3 P.pw := by
  rw [← (host G B).2.2.2.2.2.2.2.2.2.2.1]
  funext y
  blk_ext! [iblk, idx t]

theorem iblk13 (t : Fin cfg0.N) : iblk m c 13 t = up2 P.wpo := by
  rw [← (host G B).2.2.2.2.2.2.2.2.2.2.2.1]
  funext y
  blk_ext! [iblk, idx t]

theorem iblk14 (t : Fin cfg0.N) : iblk m c 14 t = up2 P.wo := by
  rw [← (host G B).2.2.2.2.2.2.2.2.2.2.2.2]
  funext y
  blk_ext! [iblk, idx t]

end Cert.Mixing

end
-- ==== Proof.Mix.RunA.lean ====
module

public import proofs.«01_k».proof.Proof.Gen.MixIdeal.Frame.Runs

@[expose] public section

set_option maxRecDepth 16384

noncomputable section

namespace Cert.Mixing

open Cert.MixIdeal Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The kernel's body at the first tile of tokens, where it clears the row sums: the pieces its stores leave in each
    output's block, with the proof that the body runs and leaves them, the operands' blocks as they were. -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x2048 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S4x256x256 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S256x2048 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole) (hc0 : cond0_0 i)
    (x0 : Vec F S256x1024 .f32) (x1 : Vec F S256x1024 .f32) (x2 : Vec F S256x1024 .f32) (x3 : Vec F S256x1024 .bf16) (x4 : Vec F S256x1024 .bf16) (x5 : Vec F S256x1024 .bf16) (x6 : Vec F S256x2048 .bf16) (x7 : Vec F S1x1024 .f32) (x8 : Vec F S1x1024 .f32) (x9 : Vec F S1x1024 .f32) (x10 : Vec F S1x1024 .f32) (x11 : Vec F S1024x1024 .bf16) (x12 : Vec F S4x256x256 .bf16) (x13 : Vec F S1024x1024 .bf16) (x14 : Vec F S1024x1024 .bf16) :
    Σ' (L15 : List (View.Piece (Elt F) S256x1024 .bf16)), Σ' (L16 : List (View.Piece (Elt F) S256x2048 .bf16)), Σ' (L17 : List (View.Piece (Elt F) S256x1024 .bf16)), Σ' (L18 : List (View.Piece (Elt F) S256x1024 .bf16)), Σ' (L19 : List (View.Piece (Elt F) S256x1024 .bf16)), Σ' (L20 : List (View.Piece (Elt F) S256x1024 .bf16)), Σ' (L21 : List (View.Piece (Elt F) S256x1024 .bf16)), { L22 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22)) -∗ K ⟨⟩))
          ⊢ wp frame (wpE (defs₀ (F := F)) Variants.none c none) E (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, fun E K => ?run⟩
  case run =>
    simp only [cc0_bwd_mix_eq_skeleton]; unfold cc0_bwd_mix_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.Mixing

end
-- ==== Proof.Mix.RunB.lean ====
module

public import proofs.«01_k».proof.Proof.Mix.RunA

@[expose] public section

set_option maxRecDepth 16384

noncomputable section

namespace Cert.Mixing

open Cert.MixIdeal Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The same at a later tile, where the row sums are those of the tiles before, `xo22`. -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x2048 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S4x256x256 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S256x2048 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole) (hc0 : ¬cond0_0 i)
    (x0 : Vec F S256x1024 .f32) (x1 : Vec F S256x1024 .f32) (x2 : Vec F S256x1024 .f32) (x3 : Vec F S256x1024 .bf16) (x4 : Vec F S256x1024 .bf16) (x5 : Vec F S256x1024 .bf16) (x6 : Vec F S256x2048 .bf16) (x7 : Vec F S1x1024 .f32) (x8 : Vec F S1x1024 .f32) (x9 : Vec F S1x1024 .f32) (x10 : Vec F S1x1024 .f32) (x11 : Vec F S1024x1024 .bf16) (x12 : Vec F S4x256x256 .bf16) (x13 : Vec F S1024x1024 .bf16) (x14 : Vec F S1024x1024 .bf16) (xo22 : Vec F S8x1024 .f32) :
    Σ' (L15 : List (View.Piece (Elt F) S256x1024 .bf16)), Σ' (L16 : List (View.Piece (Elt F) S256x2048 .bf16)), Σ' (L17 : List (View.Piece (Elt F) S256x1024 .bf16)), Σ' (L18 : List (View.Piece (Elt F) S256x1024 .bf16)), Σ' (L19 : List (View.Piece (Elt F) S256x1024 .bf16)), Σ' (L20 : List (View.Piece (Elt F) S256x1024 .bf16)), Σ' (L21 : List (View.Piece (Elt F) S256x1024 .bf16)), { L22 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo22
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (arg23.view.loc (c : Thread nD τ) ↦[arg23.view.set]{fullShare} arg23.view.writes (Elt F) (harg23.unread xo22) L22)) -∗ K ⟨⟩))
          ⊢ wp frame (wpE (defs₀ (F := F)) Variants.none c none) E (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, fun E K => ?run⟩
  case run =>
    simp only [cc0_bwd_mix_eq_skeleton]; unfold cc0_bwd_mix_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg23.eq_unread hf22
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexact H22

end Cert.Mixing

end
-- ==== Proof.Mix.Frame.lean ====
module

public import proofs.«01_k».proof.Proof.Mix.RunB
public import Idealize.ShloMosaic.Lib.Claim

@[expose] public section

set_option maxRecDepth 16384

noncomputable section

namespace Cert.Mixing

open Cert.MixIdeal Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a tile -/

/-- The run of the first tile, at its blocks. -/
def runA (c : Dev nD) (t : Fin cfg0.N) (h0 : t.val % 16 = 0) :=
  kernelRun0_A c (grid0.coords t)
    (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t) (ms0_20 t) (hs0_20 t)
    (ms0_21 t) (hs0_21 t) (ms0_22 t) (hs0_22 t)
    ((hcond0_0 t).mpr h0)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t)

/-- The run of a later tile, at its blocks, over the row sums `xo` of the tiles before. -/
def runB (c : Dev nD) (t : Fin cfg0.N) (h0 : ¬t.val % 16 = 0) (xo : Vec F S8x1024 .f32) :=
  kernelRun0_B c (grid0.coords t)
    (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t) (ms0_20 t) (hs0_20 t)
    (ms0_21 t) (hs0_21 t) (ms0_22 t) (hs0_22 t)
    (fun h => h0 ((hcond0_0 t).mp h))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) xo

/-- The stores of the first tile cover every block it leaves. -/
theorem coverA (c : Dev nD) (t : Fin cfg0.N) (h0 : t.val % 16 = 0) :
    (∀ y : S256x1024.Idx, ∃ pc ∈ (runA m c t h0).1, y ∈ pc.1.set) ∧
    (∀ y : S256x2048.Idx, ∃ pc ∈ (runA m c t h0).2.1, y ∈ pc.1.set) ∧
    (∀ y : S256x1024.Idx, ∃ pc ∈ (runA m c t h0).2.2.1, y ∈ pc.1.set) ∧
    (∀ y : S256x1024.Idx, ∃ pc ∈ (runA m c t h0).2.2.2.1, y ∈ pc.1.set) ∧
    (∀ y : S256x1024.Idx, ∃ pc ∈ (runA m c t h0).2.2.2.2.1, y ∈ pc.1.set) ∧
    (∀ y : S256x1024.Idx, ∃ pc ∈ (runA m c t h0).2.2.2.2.2.1, y ∈ pc.1.set) ∧
    (∀ y : S256x1024.Idx, ∃ pc ∈ (runA m c t h0).2.2.2.2.2.2.1, y ∈ pc.1.set) ∧
    (∀ y : S8x1024.Idx, ∃ pc ∈ (runA m c t h0).2.2.2.2.2.2.2.1, y ∈ pc.1.set) :=
  ⟨View.cover_of_tiledL _ S256x1024.size (by sl_kernel_rfl),
    View.cover_of_tiledL _ S256x1024.size (by sl_kernel_rfl),
    View.cover_of_tiledL _ S256x1024.size (by sl_kernel_rfl),
    View.cover_of_tiledL _ S256x1024.size (by sl_kernel_rfl),
    View.cover_of_tiledL _ S256x1024.size (by sl_kernel_rfl),
    View.cover_of_tiledL _ S256x1024.size (by sl_kernel_rfl),
    View.cover_of_tiledL _ S256x256.size (by sl_kernel_rfl),
    View.cover_of_tiledBy _ ![1, 1024] (by sl_kernel_rfl)⟩

/-- The stores of a later tile cover every block it leaves, but that of the row sums. -/
theorem coverB (c : Dev nD) (t : Fin cfg0.N) (h0 : ¬t.val % 16 = 0) (xo : Vec F S8x1024 .f32) :
    (∀ y : S256x1024.Idx, ∃ pc ∈ (runB m c t h0 xo).1, y ∈ pc.1.set) ∧
    (∀ y : S256x2048.Idx, ∃ pc ∈ (runB m c t h0 xo).2.1, y ∈ pc.1.set) ∧
    (∀ y : S256x1024.Idx, ∃ pc ∈ (runB m c t h0 xo).2.2.1, y ∈ pc.1.set) ∧
    (∀ y : S256x1024.Idx, ∃ pc ∈ (runB m c t h0 xo).2.2.2.1, y ∈ pc.1.set) ∧
    (∀ y : S256x1024.Idx, ∃ pc ∈ (runB m c t h0 xo).2.2.2.2.1, y ∈ pc.1.set) ∧
    (∀ y : S256x1024.Idx, ∃ pc ∈ (runB m c t h0 xo).2.2.2.2.2.1, y ∈ pc.1.set) ∧
    (∀ y : S256x1024.Idx, ∃ pc ∈ (runB m c t h0 xo).2.2.2.2.2.2.1, y ∈ pc.1.set) :=
  ⟨View.cover_of_tiledL _ S256x1024.size (by sl_kernel_rfl),
    View.cover_of_tiledL _ S256x1024.size (by sl_kernel_rfl),
    View.cover_of_tiledL _ S256x1024.size (by sl_kernel_rfl),
    View.cover_of_tiledL _ S256x1024.size (by sl_kernel_rfl),
    View.cover_of_tiledL _ S256x1024.size (by sl_kernel_rfl),
    View.cover_of_tiledL _ S256x1024.size (by sl_kernel_rfl),
    View.cover_of_tiledL _ S256x256.size (by sl_kernel_rfl)⟩

/-! ## What the outputs hold after each tile -/

/-- The blocks the first tile leaves. -/
def outsA (c : Dev nD) (t : Fin cfg0.N) (h0 : t.val % 16 = 0) :
    Vec F S256x1024 .bf16 × Vec F S256x2048 .bf16 × Vec F S256x1024 .bf16 × Vec F S256x1024 .bf16 ×
      Vec F S256x1024 .bf16 × Vec F S256x1024 .bf16 × Vec F S256x1024 .bf16 × Vec F S8x1024 .f32 :=
  (VO0_15.read (Elt F) (VO0_15.writes (Elt F) VO0_15.junk (runA m c t h0).1),
   VO0_16.read (Elt F) (VO0_16.writes (Elt F) VO0_16.junk (runA m c t h0).2.1),
   VO0_17.read (Elt F) (VO0_17.writes (Elt F) VO0_17.junk (runA m c t h0).2.2.1),
   VO0_18.read (Elt F) (VO0_18.writes (Elt F) VO0_18.junk (runA m c t h0).2.2.2.1),
   VO0_19.read (Elt F) (VO0_19.writes (Elt F) VO0_19.junk (runA m c t h0).2.2.2.2.1),
   VO0_20.read (Elt F) (VO0_20.writes (Elt F) VO0_20.junk (runA m c t h0).2.2.2.2.2.1),
   VO0_21.read (Elt F) (VO0_21.writes (Elt F) VO0_21.junk (runA m c t h0).2.2.2.2.2.2.1),
   VO0_22.read (Elt F) (VO0_22.writes (Elt F) VO0_22.junk (runA m c t h0).2.2.2.2.2.2.2.1))

/-- The blocks a later tile leaves. -/
def outsB (c : Dev nD) (t : Fin cfg0.N) (h0 : ¬t.val % 16 = 0) (xo : Vec F S8x1024 .f32) :
    Vec F S256x1024 .bf16 × Vec F S256x2048 .bf16 × Vec F S256x1024 .bf16 × Vec F S256x1024 .bf16 ×
      Vec F S256x1024 .bf16 × Vec F S256x1024 .bf16 × Vec F S256x1024 .bf16 × Vec F S8x1024 .f32 :=
  (VO0_15.read (Elt F) (VO0_15.writes (Elt F) VO0_15.junk (runB m c t h0 xo).1),
   VO0_16.read (Elt F) (VO0_16.writes (Elt F) VO0_16.junk (runB m c t h0 xo).2.1),
   VO0_17.read (Elt F) (VO0_17.writes (Elt F) VO0_17.junk (runB m c t h0 xo).2.2.1),
   VO0_18.read (Elt F) (VO0_18.writes (Elt F) VO0_18.junk (runB m c t h0 xo).2.2.2.1),
   VO0_19.read (Elt F) (VO0_19.writes (Elt F) VO0_19.junk (runB m c t h0 xo).2.2.2.2.1),
   VO0_20.read (Elt F) (VO0_20.writes (Elt F) VO0_20.junk (runB m c t h0 xo).2.2.2.2.2.1),
   VO0_21.read (Elt F) (VO0_21.writes (Elt F) VO0_21.junk (runB m c t h0 xo).2.2.2.2.2.2.1),
   (ms0_22 t).view.read (Elt F) ((ms0_22 t).view.writes (Elt F) ((hs0_22 t).unread xo) (runB m c t h0 xo).2.2.2.2.2.2.2.1))

/-- The blocks after the tile `n`, the row sums running from the tiles before. -/
def outsAt0 (c : Dev nD) : (n : ℕ) → n < cfg0.N →
    Vec F S256x1024 .bf16 × Vec F S256x2048 .bf16 × Vec F S256x1024 .bf16 × Vec F S256x1024 .bf16 ×
      Vec F S256x1024 .bf16 × Vec F S256x1024 .bf16 × Vec F S256x1024 .bf16 × Vec F S8x1024 .f32
  | 0, hn => outsA m c ⟨0, hn⟩ (Nat.zero_mod _)
  | n + 1, hn =>
    if h0 : (n + 1) % 16 = 0 then outsA m c ⟨n + 1, hn⟩ h0
    else outsB m c ⟨n + 1, hn⟩ h0 (outsAt0 c n (Nat.lt_of_succ_lt hn)).2.2.2.2.2.2.2

theorem outsAt0_A (c : Dev nD) (t : Fin cfg0.N) (h0 : t.val % 16 = 0) :
    outsAt0 m c t.val t.isLt = outsA m c t h0 := by
  obtain ⟨n, hn⟩ := t
  cases n with
  | zero => exact rfl
  | succ n => exact dif_pos h0

theorem outsAt0_B (c : Dev nD) (t : Fin cfg0.N) (h0 : ¬t.val % 16 = 0) :
    outsAt0 m c t.val t.isLt = outsB m c t h0
      (outsAt0 m c (t.val - 1) (Nat.lt_of_le_of_lt (Nat.sub_le _ _) t.isLt)).2.2.2.2.2.2.2 := by
  obtain ⟨n, hn⟩ := t
  cases n with
  | zero => exact absurd (Nat.zero_mod _) h0
  | succ n => exact dif_neg h0

/-! ## The pipeline's proof data -/

/-- The pipeline as it runs: an operand holds its block, an output what the tiles leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, _⟩ => (outsAt0 m c t.val t.isLt).2.2.2.2.2.1
    | ⟨21, _⟩ => (outsAt0 m c t.val t.isLt).2.2.2.2.2.2.1
    | ⟨22, _⟩ => (outsAt0 m c t.val t.isLt).2.2.2.2.2.2.2
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_20 (c : Dev nD) (t : Fin cfg0.N) : (dats m 0 c).after 20 t = (outsAt0 m c t.val t.isLt).2.2.2.2.2.1 := by dsimp only [dats]
theorem after0_21 (c : Dev nD) (t : Fin cfg0.N) : (dats m 0 c).after 21 t = (outsAt0 m c t.val t.isLt).2.2.2.2.2.2.1 := by dsimp only [dats]
theorem after0_22 (c : Dev nD) (t : Fin cfg0.N) : (dats m 0 c).after 22 t = (outsAt0 m c t.val t.isLt).2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
/-- A later tile finds the row sums the tile before left. -/
theorem before0_22_B (c : Dev nD) (t : Fin cfg0.N) (h0 : ¬t.val % 16 = 0) (d) :
    (dats m 0 c).before 22 t d = (outsAt0 m c (t.val - 1) (Nat.lt_of_le_of_lt (Nat.sub_le _ _) t.isLt)).2.2.2.2.2.2.2 := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]

/-! ## The body obligation, at a generic point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 4000000 in
/-- The body at any tile runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  have hN : t.val < 16 := lt_of_lt_of_eq t.isLt (show cfg0.N = 16 from N_0)
  by_cases h0 : t.val % 16 = 0
  · rw [outsAt0_A m c t h0]
    unfold outsA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runA m c t h0).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverA m c t h0).1
    isplitl [H16]
    · unfold owns; iexists _; isplitr
      swap; · iexact H16
      ipureintro; exact View.read_writes_of_cover _ _ _ _ _ (coverA m c t h0).2.1
    isplitl [H17]
    · unfold owns; iexists _; isplitr
      swap; · iexact H17
      ipureintro; exact View.read_writes_of_cover _ _ _ _ _ (coverA m c t h0).2.2.1
    isplitl [H18]
    · unfold owns; iexists _; isplitr
      swap; · iexact H18
      ipureintro; exact View.read_writes_of_cover _ _ _ _ _ (coverA m c t h0).2.2.2.1
    isplitl [H19]
    · unfold owns; iexists _; isplitr
      swap; · iexact H19
      ipureintro; exact View.read_writes_of_cover _ _ _ _ _ (coverA m c t h0).2.2.2.2.1
    isplitl [H20]
    · unfold owns; iexists _; isplitr
      swap; · iexact H20
      ipureintro; exact View.read_writes_of_cover _ _ _ _ _ (coverA m c t h0).2.2.2.2.2.1
    isplitl [H21]
    · unfold owns; iexists _; isplitr
      swap; · iexact H21
      ipureintro; exact View.read_writes_of_cover _ _ _ _ _ (coverA m c t h0).2.2.2.2.2.2.1
    unfold owns; iexists _; isplitr
    swap; · iexact H22
    ipureintro; exact View.read_writes_of_cover _ _ _ _ _ (coverA m c t h0).2.2.2.2.2.2.2
  · rw [outsAt0_B m c t h0]
    simp only [before0_22_B m c t h0]
    unfold outsB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runB m c t h0 _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexact H22
    iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, H22⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverB m c t h0 _).1
    isplitl [H16]
    · unfold owns; iexists _; isplitr
      swap; · iexact H16
      ipureintro; exact View.read_writes_of_cover _ _ _ _ _ (coverB m c t h0 _).2.1
    isplitl [H17]
    · unfold owns; iexists _; isplitr
      swap; · iexact H17
      ipureintro; exact View.read_writes_of_cover _ _ _ _ _ (coverB m c t h0 _).2.2.1
    isplitl [H18]
    · unfold owns; iexists _; isplitr
      swap; · iexact H18
      ipureintro; exact View.read_writes_of_cover _ _ _ _ _ (coverB m c t h0 _).2.2.2.1
    isplitl [H19]
    · unfold owns; iexists _; isplitr
      swap; · iexact H19
      ipureintro; exact View.read_writes_of_cover _ _ _ _ _ (coverB m c t h0 _).2.2.2.2.1
    isplitl [H20]
    · unfold owns; iexists _; isplitr
      swap; · iexact H20
      ipureintro; exact View.read_writes_of_cover _ _ _ _ _ (coverB m c t h0 _).2.2.2.2.2.1
    isplitl [H21]
    · unfold owns; iexists _; isplitr
      swap; · iexact H21
      ipureintro; exact View.read_writes_of_cover _ _ _ _ _ (coverB m c t h0 _).2.2.2.2.2.2
    unfold owns; iexists _; isplitr
    swap; · iexact H22
    ipureintro; rfl

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch ends, with every array as the pipeline leaves it and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

/-- The run with every result stated: the window's array after the last point. -/
theorem run_blocks : θ_run defs (onTc (τ := τ) (main (F := F))) ⟨m, fun _ => 0, ρ⟩ fun r => ∀ c : Dev nD,
      r.2.mem ((c.tc : Thread nD τ).loc main_v58_0) = (dats m 0 c).arrAt 15 cfg0.N
      ∧ r.2.mem ((c.tc : Thread nD τ).loc main_v58_1) = (dats m 0 c).arrAt 16 cfg0.N
      ∧ r.2.mem ((c.tc : Thread nD τ).loc main_v58_2) = (dats m 0 c).arrAt 17 cfg0.N
      ∧ r.2.mem ((c.tc : Thread nD τ).loc main_v58_3) = (dats m 0 c).arrAt 18 cfg0.N
      ∧ r.2.mem ((c.tc : Thread nD τ).loc main_v58_4) = (dats m 0 c).arrAt 19 cfg0.N
      ∧ r.2.mem ((c.tc : Thread nD τ).loc main_v58_5) = (dats m 0 c).arrAt 20 cfg0.N
      ∧ r.2.mem ((c.tc : Thread nD τ).loc main_v58_6) = (dats m 0 c).arrAt 21 cfg0.N
      ∧ r.2.mem ((c.tc : Thread nD τ).loc main_v58_7) = (dats m 0 c).arrAt 22 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h.1 c).1 15, (h.1 c).1 16, (h.1 c).1 17, (h.1 c).1 18, (h.1 c).1 19, (h.1 c).1 20, (h.1 c).1 21, (h.1 c).1 22, h.2 c⟩)
    (θ_run_and (run_main m ρ) (unchanged m ρ))

end Cert.Mixing

end
-- ==== Proof.Mix.Stages.lean ====
/- A tile of 256 tokens through the kernel's stored values, and the pieces of its operands and of its results. -/
module

public import proofs.«01_k».proof.Proof.Mix.Payloads
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Mixing

open Idealize.ShloMosaic Cert.MixIdeal Cert.MixIdeal.Gen Cert.Lift Cert.Rows

/-! ## The stored values -/

variable (P : Params) (T : Fin 256 → Token) (R : Fin 1 → Row)

theorem q6 : k0_pay6 (F := Ideal) (up2 fun i => (T i).d) (up2 fun i => mo P (T i)) (up2 R) =
    up2 fun i k => R i k + ∑ t, (T t).d k * unit (mo P (T t)) k := pay6 _ _ R

theorem q7 : k0_pay7 (F := Ideal) (up2 fun i => (T i).d) (up2 fun i => mo P (T i)) (up2 (row P.g2)) = up2 fun i => dmo P (T i) := pay7 _ _ _

theorem q8 : k0_pay8 (F := Ideal) (up2 fun i => dmo P (T i)) (up2 P.wo) = up2 fun i => dmg P (T i) := pay8 _ _

theorem q9 : k0_pay9 (F := Ideal) (up2 fun i k => (T i).gt (lft k)) = up2 fun i => gc (T i) := pay9 _

theorem q10 : k0_pay10 (F := Ideal) (up2 fun i k => (T i).gt (rgt k)) = up2 fun i => gp (T i) := pay10 _

theorem q11 : k0_pay11 (F := Ideal) (up2 fun i => dmo P (T i)) (up2 P.wo) (up2 fun i k => (T i).gt (lft k)) (up2 fun i => yc P (T i)) =
    up2 fun i => dgc P (T i) := pay11 _ _ _ _

theorem q13 : k0_pay13 (F := Ideal) (up2 fun i => dmg P (T i)) (up2 fun i => gp (T i)) (up2 fun i => yp P (T i)) = up2 fun i => dgp P (T i) := pay13 _ _ _

theorem q14 : k0_pay14 (F := Ideal) (up2 fun i => dmg P (T i)) (up2 fun i => gc (T i)) = up2 fun i => dyc P (T i) := pay14 _ _

theorem q15 : k0_pay15 (F := Ideal) (up2 fun i => dmg P (T i)) (up2 fun i => gp (T i)) = up2 fun i => dyp P (T i) := pay15 _ _

theorem q16 : k0_pay16 (F := Ideal) (up2 fun i => dmg P (T i)) (up2 fun i => gc (T i)) (up2 P.wco) = up2 fun i => dsw P (T i) := pay16 _ _ _

theorem q18 : k0_pay18 (F := Ideal) (up2 fun i => (T i).u) = up2 (col fun i => rstd (T i).u) := pay18 _

theorem q19 : k0_pay19 (F := Ideal) (up2 fun i => (T i).u) = up2 fun i => nrm (T i).u := pay19 _

theorem q20 : k0_pay20 (F := Ideal) (up2 fun i => (T i).u) (up2 (row P.lg)) = up2 fun i k => nrm (T i).u k * P.lg k := pay20 _ _

theorem q22 : k0_pay22 (F := Ideal) (up2 fun i => dsw P (T i)) (up2 fun i => nrm (T i).u) (up2 fun i k => nrm (T i).u k * P.lg k) (up2 (row P.lb)) (up2 R) =
    up2 fun i k => R i k + ∑ t, dln P (T t) k * nrm (T t).u k := pay22 _ _ _ _ R

theorem q23 : k0_pay23 (F := Ideal) (up2 fun i => dsw P (T i)) (up2 fun i k => nrm (T i).u k * P.lg k) (up2 (row P.lb)) (up2 R) =
    up2 fun i k => R i k + ∑ t, dln P (T t) k := pay23 _ _ _ R

theorem q24 : k0_pay24 (F := Ideal) (up2 fun i => dsw P (T i)) (up2 fun i k => nrm (T i).u k * P.lg k) (up2 (row P.lb)) (up2 (row P.lg)) =
    up2 fun i k => dln P (T i) k * P.lg k := pay24 _ _ _ _

theorem q25 : k0_pay25 (F := Ideal) (up2 fun i => dsw P (T i)) (up2 fun i k => nrm (T i).u k * P.lg k) (up2 (row P.lb)) (up2 (row P.lg)) =
    up2 (col fun i => ∑ k, dln P (T i) k * P.lg k) := pay25 _ _ _ _

theorem q28 : k0_pay28 (F := Ideal) (up2 (col fun i => rstd (T i).u)) (up2 fun i => nrm (T i).u) (up2 fun i k => dln P (T i) k * P.lg k)
    (up2 (col fun i => ∑ k, dln P (T i) k * P.lg k)) (up2 (a := 256) (b := 1) fun _ _ => 1024) = up2 fun i => dcv P (T i) := pay28 _ _ _ _

theorem q29 : k0_pay29 (F := Ideal) (up2 (col fun i => rstd (T i).u)) (up2 fun i => nrm (T i).u) (up2 fun i k => dln P (T i) k * P.lg k)
    (up2 (col fun i => ∑ k, dln P (T i) k * P.lg k)) (up2 (a := 256) (b := 1) fun _ _ => 1024) (up2 R) =
    up2 fun i k => R i k + ∑ t, dcv P (T t) k := pay29 _ _ _ _ R

theorem q30 : k0_pay30 (F := Ideal) (up2 fun i => dyp P (T i)) (up2 P.wpo) = up2 fun i => dzs P (T i) := pay30 _ _

theorem q31 : k0_pay31 (F := Ideal) (up2 fun i => dyp P (T i)) (up2 P.wpo) (up2 R) (up2 fun i => zl P (T i)) =
    up2 fun i k => R i k + ∑ t, dzs P (T t) k * zl P (T t) k := pay31 _ _ _ R

theorem q33 : k0_pay33 (F := Ideal) (up2 fun i => dzs P (T i)) (up2 (row P.ps)) = up2 fun i => dzl P (T i) := pay33 _ _

/-! ## Pieces of the operands -/

/-- The gates of the convolution's branch. -/
theorem ldl (X : Fin 256 → Fin 2048 → ℝ) {h} : View.ld (Val := Elt Ideal) (e' := EltTy.bf16) (up2 X)
    (Rect.unit (s := S256x2048) ![0, 0] ![256, 1024] h) = up2 fun i k => X i (lft k) := by
  funext y
  refine (View.ld_unit_apply_of (S := S256x2048) (Val := Elt Ideal) (e := EltTy.bf16) (up2 X) ![0, 0] ![256, 1024] h y (ix2 (y 0) (lft (y 1))) fun a => ?_).trans rfl
  match a with
  | ⟨0, _⟩ => show (y 0).val = 0 + (y 0).val; omega
  | ⟨1, _⟩ => show (y 1).val = 0 + (y 1).val; omega

/-- The gates of the pooling branch. -/
theorem ldr (X : Fin 256 → Fin 2048 → ℝ) {h} : View.ld (Val := Elt Ideal) (e' := EltTy.bf16) (up2 X)
    (Rect.unit (s := S256x2048) ![0, 1024] ![256, 1024] h) = up2 fun i k => X i (rgt k) := by
  funext y
  refine (View.ld_unit_apply_of (S := S256x2048) (Val := Elt Ideal) (e := EltTy.bf16) (up2 X) ![0, 1024] ![256, 1024] h y (ix2 (y 0) (rgt (y 1))) fun a => ?_).trans rfl
  match a with
  | ⟨0, _⟩ => show (y 0).val = 0 + (y 0).val; omega
  | ⟨1, _⟩ => rfl

/-- The channels of group `q`. -/
theorem ldc (X : Fin 256 → Row) (q : Fin 4) {n : ℕ} {h} (hn : q.val * 256 = n) : View.ld (Val := Elt Ideal) (e' := EltTy.bf16) (up2 X)
    (Rect.unit (s := S256x1024) ![0, n] ![256, 256] h) = up2 fun i l => X i (cell q l) := by
  funext y
  refine (View.ld_unit_apply_of (S := S256x1024) (Val := Elt Ideal) (e := EltTy.bf16) (up2 X) ![0, n] ![256, 256] h y (ix2 (y 0) (cell q (y 1))) fun a => ?_).trans rfl
  subst hn
  match a with
  | ⟨0, _⟩ => show (y 0).val = 0 + (y 0).val; omega
  | ⟨1, _⟩ => rfl
theorem ldc0 (X : Fin 256 → Row) {h} : View.ld (Val := Elt Ideal) (e' := EltTy.bf16) (up2 X)
    (Rect.unit (s := S256x1024) ![0, 0] ![256, 256] h) = up2 fun i l => X i (cell 0 l) := ldc X 0 rfl
theorem ldc1 (X : Fin 256 → Row) {h} : View.ld (Val := Elt Ideal) (e' := EltTy.bf16) (up2 X)
    (Rect.unit (s := S256x1024) ![0, 256] ![256, 256] h) = up2 fun i l => X i (cell 1 l) := ldc X 1 rfl
theorem ldc2 (X : Fin 256 → Row) {h} : View.ld (Val := Elt Ideal) (e' := EltTy.bf16) (up2 X)
    (Rect.unit (s := S256x1024) ![0, 512] ![256, 256] h) = up2 fun i l => X i (cell 2 l) := ldc X 2 rfl
theorem ldc3 (X : Fin 256 → Row) {h} : View.ld (Val := Elt Ideal) (e' := EltTy.bf16) (up2 X)
    (Rect.unit (s := S256x1024) ![0, 768] ![256, 256] h) = up2 fun i l => X i (cell 3 l) := ldc X 3 rfl

/-- The matrix of group `q`. -/
theorem ldw (X : Fin 4 → Fin 256 → Fin 256 → ℝ) (q : Fin 4) {n : ℕ} {h} (hn : q.val = n) : View.ld (Val := Elt Ideal) (e' := EltTy.bf16) (up3 X)
    (Rect.unit (s := S4x256x256) ![n, 0, 0] ![1, 256, 256] h) = up3 fun (_ : Fin 1) j l => X q j l := by
  funext y
  refine (View.ld_unit_apply_of (S := S4x256x256) (Val := Elt Ideal) (e := EltTy.bf16) (up3 X) ![n, 0, 0] ![1, 256, 256] h y (ix3 q (y 1) (y 2)) fun a => ?_).trans rfl
  subst hn
  match a with
  | ⟨0, _⟩ => have : (y 0).val < 1 := (y 0).isLt; show q.val = q.val + (y 0).val; omega
  | ⟨1, _⟩ => show (y 1).val = 0 + (y 1).val; omega
  | ⟨2, _⟩ => show (y 2).val = 0 + (y 2).val; omega
theorem ldw0 (X : Fin 4 → Fin 256 → Fin 256 → ℝ) {h} : View.ld (Val := Elt Ideal) (e' := EltTy.bf16) (up3 X)
    (Rect.unit (s := S4x256x256) ![0, 0, 0] ![1, 256, 256] h) = up3 fun (_ : Fin 1) j l => X 0 j l := ldw X 0 rfl
theorem ldw1 (X : Fin 4 → Fin 256 → Fin 256 → ℝ) {h} : View.ld (Val := Elt Ideal) (e' := EltTy.bf16) (up3 X)
    (Rect.unit (s := S4x256x256) ![1, 0, 0] ![1, 256, 256] h) = up3 fun (_ : Fin 1) j l => X 1 j l := ldw X 1 rfl
theorem ldw2 (X : Fin 4 → Fin 256 → Fin 256 → ℝ) {h} : View.ld (Val := Elt Ideal) (e' := EltTy.bf16) (up3 X)
    (Rect.unit (s := S4x256x256) ![2, 0, 0] ![1, 256, 256] h) = up3 fun (_ : Fin 1) j l => X 2 j l := ldw X 2 rfl
theorem ldw3 (X : Fin 4 → Fin 256 → Fin 256 → ℝ) {h} : View.ld (Val := Elt Ideal) (e' := EltTy.bf16) (up3 X)
    (Rect.unit (s := S4x256x256) ![3, 0, 0] ![1, 256, 256] h) = up3 fun (_ : Fin 1) j l => X 3 j l := ldw X 3 rfl

/-- Row `r` of the eight, loaded. -/
theorem ld8 (A : Fin 8 → Row) (r : Fin 8) {n : ℕ} {h} (hn : r.val = n) : View.ld (Val := Elt Ideal) (e' := EltTy.f32) (up2 A)
    (Rect.unit (s := S8x1024) ![n, 0] ![1, 1024] h) = up2 (row (A r)) := by
  funext y
  refine (View.ld_unit_apply_of (S := S8x1024) (Val := Elt Ideal) (e := EltTy.f32) (up2 A) ![n, 0] ![1, 1024] h y (ix2 r (y 1)) fun a => ?_).trans rfl
  subst hn
  match a with
  | ⟨0, _⟩ => have : (y 0).val < 1 := (y 0).isLt; show r.val = r.val + (y 0).val; omega
  | ⟨1, _⟩ => show (y 1).val = 0 + (y 1).val; omega
theorem ld8_0 (A : Fin 8 → Row) {h} : View.ld (Val := Elt Ideal) (e' := EltTy.f32) (up2 A)
    (Rect.unit (s := S8x1024) ![0, 0] ![1, 1024] h) = up2 (row (A 0)) := ld8 A 0 rfl
theorem ld8_1 (A : Fin 8 → Row) {h} : View.ld (Val := Elt Ideal) (e' := EltTy.f32) (up2 A)
    (Rect.unit (s := S8x1024) ![1, 0] ![1, 1024] h) = up2 (row (A 1)) := ld8 A 1 rfl
theorem ld8_2 (A : Fin 8 → Row) {h} : View.ld (Val := Elt Ideal) (e' := EltTy.f32) (up2 A)
    (Rect.unit (s := S8x1024) ![2, 0] ![1, 1024] h) = up2 (row (A 2)) := ld8 A 2 rfl
theorem ld8_3 (A : Fin 8 → Row) {h} : View.ld (Val := Elt Ideal) (e' := EltTy.f32) (up2 A)
    (Rect.unit (s := S8x1024) ![3, 0] ![1, 1024] h) = up2 (row (A 3)) := ld8 A 3 rfl
theorem ld8_4 (A : Fin 8 → Row) {h} : View.ld (Val := Elt Ideal) (e' := EltTy.f32) (up2 A)
    (Rect.unit (s := S8x1024) ![4, 0] ![1, 1024] h) = up2 (row (A 4)) := ld8 A 4 rfl

/-! ## Pieces of the results -/

/-- One row stored over eight rows. -/
theorem store_row {sg : RefSig} {κ : Kind} {sp : Space} (v : View sg κ sp S8x1024 EltTy.f32) (f : v.ty.Contents (Elt Ideal)) (w : Fin 1 → Row) (r : Fin 8) {n : ℕ}
    (hn : r.val = n) {A : Fin 8 → Row} {L : List (View.Piece (Elt Ideal) S8x1024 EltTy.f32)} (hL : v.read (Elt Ideal) (v.writes (Elt Ideal) f L) = up2 A) {h} :
    v.read (Elt Ideal) (v.writes (Elt Ideal) f (⟨Rect.unit ![n, 0] ![1, 1024] h, up2 w⟩ :: L)) = up2 fun r' k => if r' = r then w 0 k else A r' k := by
  subst hn
  funext y
  obtain ⟨r', k, rfl⟩ : ∃ (r' : Fin 8) (k : Fin 1024), y = ix2 r' k :=
    ⟨y 0, y 1, by funext a; match a with | ⟨0, _⟩ => rfl | ⟨1, _⟩ => rfl⟩
  by_cases e : r' = r
  · subst e
    rw [View.read_writes_cons_rows_of_mem v f (d := ![8, 1024]) h _ _ (ix2 r' k) (ix2 0 k) rfl rfl rfl]
    simp only [at2, if_true]
  have hne : r'.val ≠ r.val := fun e' => e (Fin.ext e')
  rw [View.read_writes_cons_rows_of_not_mem v f (d := ![8, 1024]) h _ _ (ix2 r' k) rfl rfl (by show r'.val < r.val ∨ r.val + 1 ≤ r'.val; omega), hL,
    at2, at2, if_neg e]

theorem dgt_l (X : Token) (k : Fin 1024) (j : Fin 2048) (h : j.val = k.val) : dgc P X k = dgt P X j := by
  unfold dgt
  rw [dif_pos (by omega)]
  exact congrArg _ (Fin.ext h.symm)

theorem dgt_r (X : Token) (k : Fin 1024) (j : Fin 2048) (h : j.val = 1024 + k.val) : dgp P X k = dgt P X j := by
  unfold dgt
  rw [dif_neg (by omega)]
  exact congrArg _ (Fin.ext (by show k.val = j.val - 1024; omega))

theorem dz_eq (X : Token) (q : Fin 4) (l : Fin 256) (k : Fin 1024) (h : k.val = q.val * 256 + l.val) :
    ∑ i, dzl P X (cell q i) * P.pw q l i = dz P X k := by
  have eg : grp k = q := Fin.ext (by show k.val / 256 = q.val; omega)
  have eo : off k = l := Fin.ext (by show k.val % 256 = l.val; omega)
  unfold dz
  rw [eg, eo]

/-- The gradients by the gates' arguments, in their two halves. -/
theorem half_l (x : (⟨2, ![256, 1024]⟩ : Shape).Idx) (y : S256x2048.Idx) (h0 : (y 0).val = (x 0).val) (h1 : (y 1).val = (x 1).val) :
    up2 (fun i => dgc P (T i)) x = up2 (fun i => dgt P (T i)) y := by
  have e0 : y 0 = x 0 := Fin.ext h0
  unfold up2
  rw [e0]
  exact congrArg (fun r : ℝ => (r : EReal)) (dgt_l P (T (x 0)) (x 1) (y 1) h1)

theorem half_r (x : (⟨2, ![256, 1024]⟩ : Shape).Idx) (y : S256x2048.Idx) (h0 : (y 0).val = (x 0).val) (h1 : (y 1).val = 1024 + (x 1).val) :
    up2 (fun i => dgp P (T i)) x = up2 (fun i => dgt P (T i)) y := by
  have e0 : y 0 = x 0 := Fin.ext h0
  unfold up2
  rw [e0]
  exact congrArg (fun r : ℝ => (r : EReal)) (dgt_r P (T (x 0)) (x 1) (y 1) h1)

/-- The gradient by the pooled values, group by group. -/
theorem quarter (q : Fin 4) (x : (⟨2, ![256, 256]⟩ : Shape).Idx) (y : S256x1024.Idx) (h0 : (y 0).val = (x 0).val) (h1 : (y 1).val = q.val * 256 + (x 1).val) :
    up2 (a := 256) (b := 256) (fun i j => ∑ l, dzl P (T i) (cell q l) * P.pw q j l) x = up2 (fun i => dz P (T i)) y := by
  have e0 : y 0 = x 0 := Fin.ext h0
  unfold up2
  rw [e0]
  exact congrArg (fun r : ℝ => (r : EReal)) (dz_eq P (T (x 0)) q (x 1) (y 1) h1)

end Cert.Mixing

end
-- ==== Proof.Mix.Outs.lean ====
/- The eight blocks that the kernel's point `t` leaves, on finite arguments. -/
module

public import proofs.«01_k».proof.Proof.Mix.Tiles
public import proofs.«01_k».proof.Proof.Mix.Frame
public import proofs.«01_k».proof.Proof.Mix.Stages

@[expose] public section

set_option maxRecDepth 16384

noncomputable section

namespace Cert.Mixing

open Idealize.ShloMosaic Idealize.ShloMosaic.TcCoe Cert.MixIdeal Cert.MixIdeal.Gen Cert.Lift Cert.Rows

variable {P : Params} {S : Fin 4096 → Token} {m : (ℓ : Loc nD τ sig) → Buf (Elt Ideal) ℓ} {c : Dev nD} (G : Given P S m c)
  {W : Valuation MixRefIdeal.τ MixRefIdeal.sig (Elt Ideal)} (B : Holds P S W)
include G B
set_option maxHeartbeats 4000000

theorem t15 (n : ℕ) (h : n < cfg0.N) : (outsAt0 m c n h).1 = up2 fun i => dmo P (toks S ⟨n, h⟩ i) := by
  by_cases h0 : n % 16 = 0
  · rw [outsAt0_A m c ⟨n, h⟩ h0]
    unfold outsA runA
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]
  · rw [outsAt0_B m c ⟨n, h⟩ h0]
    unfold outsB runB
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]

theorem t16 (n : ℕ) (h : n < cfg0.N) : (outsAt0 m c n h).2.1 = up2 fun i => dgt P (toks S ⟨n, h⟩ i) := by
  by_cases h0 : n % 16 = 0
  · rw [outsAt0_A m c ⟨n, h⟩ h0]
    unfold outsA runA
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]
    funext y
    canon_tiles x h
    · exact half_r P (toks S ⟨n, h⟩) x y h0 h1
    · exact half_l P (toks S ⟨n, h⟩) x y h0 h1
  · rw [outsAt0_B m c ⟨n, h⟩ h0]
    unfold outsB runB
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]
    funext y
    canon_tiles x h
    · exact half_r P (toks S ⟨n, h⟩) x y h0 h1
    · exact half_l P (toks S ⟨n, h⟩) x y h0 h1

theorem t17 (n : ℕ) (h : n < cfg0.N) : (outsAt0 m c n h).2.2.1 = up2 fun i => dyc P (toks S ⟨n, h⟩ i) := by
  by_cases h0 : n % 16 = 0
  · rw [outsAt0_A m c ⟨n, h⟩ h0]
    unfold outsA runA
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]
  · rw [outsAt0_B m c ⟨n, h⟩ h0]
    unfold outsB runB
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]

theorem t18 (n : ℕ) (h : n < cfg0.N) : (outsAt0 m c n h).2.2.2.1 = up2 fun i => dyp P (toks S ⟨n, h⟩ i) := by
  by_cases h0 : n % 16 = 0
  · rw [outsAt0_A m c ⟨n, h⟩ h0]
    unfold outsA runA
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]
  · rw [outsAt0_B m c ⟨n, h⟩ h0]
    unfold outsB runB
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]

theorem t19 (n : ℕ) (h : n < cfg0.N) : (outsAt0 m c n h).2.2.2.2.1 = up2 fun i => dcv P (toks S ⟨n, h⟩ i) := by
  by_cases h0 : n % 16 = 0
  · rw [outsAt0_A m c ⟨n, h⟩ h0]
    unfold outsA runA
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]
  · rw [outsAt0_B m c ⟨n, h⟩ h0]
    unfold outsB runB
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]

theorem t20 (n : ℕ) (h : n < cfg0.N) : (outsAt0 m c n h).2.2.2.2.2.1 = up2 fun i => dzl P (toks S ⟨n, h⟩ i) := by
  by_cases h0 : n % 16 = 0
  · rw [outsAt0_A m c ⟨n, h⟩ h0]
    unfold outsA runA
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]
  · rw [outsAt0_B m c ⟨n, h⟩ h0]
    unfold outsB runB
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]

theorem t21 (n : ℕ) (h : n < cfg0.N) : (outsAt0 m c n h).2.2.2.2.2.2.1 = up2 fun i => dz P (toks S ⟨n, h⟩ i) := by
  by_cases h0 : n % 16 = 0
  · rw [outsAt0_A m c ⟨n, h⟩ h0]
    unfold outsA runA
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]
    simp (disch := decide) only [View.readCov_fill]
    simp only [ldc0, ldc1, ldc2, ldc3, ldw0, ldw1, ldw2, ldw3, pay34, pay35, pay36, pay37, pay1]
    funext y
    canon_tiles x h
    · exact quarter P (toks S ⟨n, h⟩) 3 x y h0 h1
    · exact quarter P (toks S ⟨n, h⟩) 2 x y h0 h1
    · exact quarter P (toks S ⟨n, h⟩) 1 x y h0 h1
    · exact quarter P (toks S ⟨n, h⟩) 0 x y h0 (by rw [h1]; show _ = 0 * 256 + _; omega)
  · rw [outsAt0_B m c ⟨n, h⟩ h0]
    unfold outsB runB
    frame_out
    simp only [iblk0 G B, iblk1 G B, iblk2 G B, iblk3 G B, iblk4 G B, iblk5 G B, iblk6 G B, iblk7 G B, iblk8 G B, iblk9 G B, iblk10 G B, iblk11 G B,
      iblk12 G B, iblk13 G B, iblk14 G B,
      ldl, ldr, q7, q8, q9, q10, pay12, pay32, q11, q13, q14, q15, q16, q18, q19, q20, q24, q25, pay26, q28, q30, q33]
    simp (disch := decide) only [View.readCov_fill]
    simp only [ldc0, ldc1, ldc2, ldc3, ldw0, ldw1, ldw2, ldw3, pay34, pay35, pay36, pay37, pay1]
    funext y
    canon_tiles x h
    · exact quarter P (toks S ⟨n, h⟩) 3 x y h0 h1
    · exact quarter P (toks S ⟨n, h⟩) 2 x y h0 h1
    · exact quarter P (toks S ⟨n, h⟩) 1 x y h0 h1
    · exact quarter P (toks S ⟨n, h⟩) 0 x y h0 (by rw [h1]; show _ = 0 * 256 + _; omega)

theorem t22B (n : ℕ) (h : n < cfg0.N) (h0 : ¬ n % 16 = 0) (A : Fin 8 → Row) (hA : (outsAt0 m c (n - 1) (Nat.lt_of_le_of_lt (Nat.sub_le _ _) h)).2.2.2.2.2.2.2 = up2 A) :
    (outsAt0 m c n h).2.2.2.2.2.2.2 = up2 fun r k => A r k + vec P (toks S ⟨n, h⟩) r k := by
  rw [outsAt0_B m c ⟨n, h⟩ h0]
  unfold outsB runB
  frame_out
  simp only [iblk0 G B, iblk1 G B, iblk2 G B, iblk3 G B, iblk4 G B, iblk5 G B, iblk6 G B, iblk7 G B, iblk8 G B, iblk9 G B, iblk10 G B, iblk11 G B,
  iblk12 G B, iblk13 G B, iblk14 G B,
    ldl, ldr, q7, q8, q9, q10, pay12, pay32, q11, q13, q14, q15, q16, q18, q19, q20, q24, q25, pay26, q28, q30, q33]
  simp only [hA, ld8_0, ld8_1, ld8_2, ld8_3, ld8_4, q6, q22, q23, q29, q31]
  refine (store_row _ _ _ 4 rfl (store_row _ _ _ 3 rfl (store_row _ _ _ 2 rfl (store_row _ _ _ 1 rfl (store_row _ _ _ 0 rfl (A := A) (L := [])
    ((hs0_22 ⟨n, h⟩).read_unread _)))))).trans ?_
  congr 1
  funext r k
  fin_cases r <;> simp [vec, row]

theorem t22A (n : ℕ) (h : n < cfg0.N) (h0 : n % 16 = 0) : (outsAt0 m c n h).2.2.2.2.2.2.2 = up2 (vec P (toks S ⟨n, h⟩)) := by
  rw [outsAt0_A m c ⟨n, h⟩ h0]
  unfold outsA runA
  frame_out
  simp only [iblk0 G B, iblk1 G B, iblk2 G B, iblk3 G B, iblk4 G B, iblk5 G B, iblk6 G B, iblk7 G B, iblk8 G B, iblk9 G B, iblk10 G B, iblk11 G B,
  iblk12 G B, iblk13 G B, iblk14 G B,
    ldl, ldr, q7, q8, q9, q10, pay12, pay32, q11, q13, q14, q15, q16, q18, q19, q20, q24, q25, pay26, q28, q30, q33]
  simp (disch := decide) only [View.readCov_skip]
  simp (disch := decide) only [View.readCov_fill]
  rw [pay2]
  simp only [ld8_0, ld8_1, ld8_2, ld8_3, ld8_4, q6, q22, q23, q29, q31]
  rw [← View.read_writes_junk_eq_canon (ms0_22 ⟨n, h⟩).view]
  refine (store_row _ _ _ 4 rfl (store_row _ _ _ 3 rfl (store_row _ _ _ 2 rfl (store_row _ _ _ 1 rfl (store_row _ _ _ 0 rfl (A := fun _ _ => 0)
    ((View.read_writes_junk_eq_canon (ms0_22 ⟨n, h⟩).view _).trans ?_)))))).trans ?_
  · funext y
    canon_tiles x h
    rfl
  congr 1
  funext r k
  fin_cases r <;> simp [vec, row]

/-- The tiles' sums so far. -/
theorem t22 (n : ℕ) (h : n < cfg0.N) : (outsAt0 m c n h).2.2.2.2.2.2.2 = up2 fun r k => ∑ s ∈ Finset.range (n + 1),
    if hs : s < cfg0.N then vec P (toks S ⟨s, hs⟩) r k else 0 := by
  induction n with
  | zero =>
    rw [t22A G B 0 h rfl]
    congr 1
    funext r k
    rw [Finset.sum_range_one, dif_pos h]
  | succ n ih =>
    have h16 : n + 1 < 16 := h
    rw [t22B G B (n + 1) h (by omega) _ (ih (by show n < 16; omega))]
    congr 1
    funext r k
    rw [Finset.sum_range_succ _ (n + 1), dif_pos h]

end Cert.Mixing

end
-- ==== Proof.Mix.Arrays.lean ====
/- The eight arrays the kernel leaves. -/
module

public import proofs.«01_k».proof.Proof.Mix.Outs

@[expose] public section

set_option maxRecDepth 16384

noncomputable section

namespace Cert.Mixing

open Idealize.ShloMosaic Idealize.ShloMosaic.TcCoe Cert.MixIdeal Cert.MixIdeal.Gen Cert.Lift Cert.Rows

variable {P : Params} {S : Fin 4096 → Token} {m : (ℓ : Loc nD τ sig) → Buf (Elt Ideal) ℓ} {c : Dev nD} (G : Given P S m c)
  {W : Valuation MixRefIdeal.τ MixRefIdeal.sig (Elt Ideal)} (B : Holds P S W)

/-- Row `i` of point `t`. -/
def row256 (t : Fin cfg0.N) (i : Fin 256) : Fin 4096 := ⟨t.val * 256 + i.val, by have : t.val < 16 := t.isLt; omega⟩

include G B

theorem arr15 : (dats m 0 c).arrAt 15 cfg0.N = up2 (fun i => dmo P (S i)) :=
  (dats m 0 c).arrAt_eq_of_covers 15 _ (by decide +kernel) fun t hf y => by
    blk_simp
    rw [after0_15, t15 G B]
    have e : (win0_15.blk t).view.emb y = ix2 (row256 t (y 0)) (y 1) := by
      funext a
      apply Fin.ext
      blk_simp
      match a with
      | ⟨0, _⟩ => simp [idx t, row256]
      | ⟨1, _⟩ => simp [idx t]
    rw [e]
    rfl

theorem arr16 : (dats m 0 c).arrAt 16 cfg0.N = up2 (fun i => dgt P (S i)) :=
  (dats m 0 c).arrAt_eq_of_covers 16 _ (by decide +kernel) fun t hf y => by
    blk_simp
    rw [after0_16, t16 G B]
    have e : (win0_16.blk t).view.emb y = ix2 (row256 t (y 0)) (y 1) := by
      funext a
      apply Fin.ext
      blk_simp
      match a with
      | ⟨0, _⟩ => simp [idx t, row256]
      | ⟨1, _⟩ => simp [idx t]
    rw [e]
    rfl

theorem arr17 : (dats m 0 c).arrAt 17 cfg0.N = up2 (fun i => dyc P (S i)) :=
  (dats m 0 c).arrAt_eq_of_covers 17 _ (by decide +kernel) fun t hf y => by
    blk_simp
    rw [after0_17, t17 G B]
    have e : (win0_17.blk t).view.emb y = ix2 (row256 t (y 0)) (y 1) := by
      funext a
      apply Fin.ext
      blk_simp
      match a with
      | ⟨0, _⟩ => simp [idx t, row256]
      | ⟨1, _⟩ => simp [idx t]
    rw [e]
    rfl

theorem arr18 : (dats m 0 c).arrAt 18 cfg0.N = up2 (fun i => dyp P (S i)) :=
  (dats m 0 c).arrAt_eq_of_covers 18 _ (by decide +kernel) fun t hf y => by
    blk_simp
    rw [after0_18, t18 G B]
    have e : (win0_18.blk t).view.emb y = ix2 (row256 t (y 0)) (y 1) := by
      funext a
      apply Fin.ext
      blk_simp
      match a with
      | ⟨0, _⟩ => simp [idx t, row256]
      | ⟨1, _⟩ => simp [idx t]
    rw [e]
    rfl

theorem arr19 : (dats m 0 c).arrAt 19 cfg0.N = up2 (fun i => dcv P (S i)) :=
  (dats m 0 c).arrAt_eq_of_covers 19 _ (by decide +kernel) fun t hf y => by
    blk_simp
    rw [after0_19, t19 G B]
    have e : (win0_19.blk t).view.emb y = ix2 (row256 t (y 0)) (y 1) := by
      funext a
      apply Fin.ext
      blk_simp
      match a with
      | ⟨0, _⟩ => simp [idx t, row256]
      | ⟨1, _⟩ => simp [idx t]
    rw [e]
    rfl

theorem arr20 : (dats m 0 c).arrAt 20 cfg0.N = up2 (fun i => dzl P (S i)) :=
  (dats m 0 c).arrAt_eq_of_covers 20 _ (by decide +kernel) fun t hf y => by
    blk_simp
    rw [after0_20, t20 G B]
    have e : (win0_20.blk t).view.emb y = ix2 (row256 t (y 0)) (y 1) := by
      funext a
      apply Fin.ext
      blk_simp
      match a with
      | ⟨0, _⟩ => simp [idx t, row256]
      | ⟨1, _⟩ => simp [idx t]
    rw [e]
    rfl

theorem arr21 : (dats m 0 c).arrAt 21 cfg0.N = up2 (fun i => dz P (S i)) :=
  (dats m 0 c).arrAt_eq_of_covers 21 _ (by decide +kernel) fun t hf y => by
    blk_simp
    rw [after0_21, t21 G B]
    have e : (win0_21.blk t).view.emb y = ix2 (row256 t (y 0)) (y 1) := by
      funext a
      apply Fin.ext
      blk_simp
      match a with
      | ⟨0, _⟩ => simp [idx t, row256]
      | ⟨1, _⟩ => simp [idx t]
    rw [e]
    rfl

omit G B in
/-- The sum over the rows is the sum over the points of the sums over their rows. -/
theorem sum_tiles (f : Fin 4096 → ℝ) : ∑ s ∈ Finset.range 16, (if hs : s < cfg0.N then ∑ i, f (row256 ⟨s, hs⟩ i) else 0) = ∑ i, f i := by
  rw [Finset.sum_range]
  have e : ∀ s : Fin 16, (if hs : s.val < cfg0.N then ∑ i, f (row256 ⟨s.val, hs⟩ i) else 0) = ∑ i, f (row256 s i) :=
    fun s => dif_pos s.isLt
  simp only [e]
  rw [← Fintype.sum_prod_type']
  refine Fintype.sum_equiv (finProdFinEquiv (m := 16) (n := 256)) _ _ fun x => ?_
  congr 1
  apply Fin.ext
  show x.1.val * 256 + x.2.val = x.2.val + 256 * x.1.val
  omega

omit G B in
theorem vec_tiles : (fun r k => ∑ s ∈ Finset.range 16, if hs : s < cfg0.N then vec P (toks S ⟨s, hs⟩) r k else 0) = vec P S := by
  funext r k
  unfold vec
  split_ifs
  · exact sum_tiles fun i => (S i).d k * unit (mo P (S i)) k
  · exact sum_tiles fun i => dln P (S i) k * nrm (S i).u k
  · exact sum_tiles fun i => dln P (S i) k
  · exact sum_tiles fun i => dcv P (S i) k
  · exact sum_tiles fun i => dzs P (S i) k * zl P (S i) k
  · simp

theorem arr22 : (dats m 0 c).arrAt 22 cfg0.N = up2 (vec P S) :=
  (dats m 0 c).arrAt_eq_of_after_last 22 t0_15 (by decide +kernel) _ fun j => by
    blk_simp
    rw [after0_22, t22 G B]
    exact congrFun (congrArg up2 vec_tiles) j

end Cert.Mixing

end
-- ==== Proof.Finite.lean ====
/- What the precondition says: every entry of every argument is a number. -/
module

public import proofs.«01_k».proof.Pre_finite
public import proofs.«01_k».proof.Proof.Rows
public import Idealize.ShloMosaic.Lib.ReduceAll

@[expose] public section

noncomputable section

namespace Cert.Finite

open Idealize.ShloMosaic Cert.Pre_finite Cert.Lift Cert.Rows

/-- An array whose entries are all below infinity in size has a number at every entry. -/
theorem entries {s t u : Shape} [Subsingleton t.Idx] {axes : List (Fin s.rank)} (x : FVec Ideal s .f32) {hb : S_.BroadcastsInDim s (![] : Fin 0 → Fin s.rank)}
    (init : u.Idx → BitVec 1) (h : s.ReducesTo axes t) (hu : 0 < u.numel) (j : t.Idx)
    (e : Host.reduce IntOp.andi (cmpf .olt (Host.absf x) (broadcastInDim s ![] hb (constant (F := Ideal) S_ .f32 0x7F800000#32))) init h hu j = 1#1)
    (i : s.Idx) : ∃ r : ℝ, x i = (r : EReal) := by
  have q := Host.reduce_andi_all _ init h hu j e i
  apply exists_real
  by_contra hn
  have z : BitVec.ofBool (decide (max (x i) (-(x i)) < Ideal.ofBits .f32 0x7F800000#32)) = 1#1 := q
  rw [bits_inf, decide_eq_false hn] at z
  exact absurd z (by decide)

theorem and_one {x y : BitVec 1} (h : IntOp.andi x y = 1#1) : x = 1#1 ∧ y = 1#1 := by
  revert h; revert x y; decide

instance : Subsingleton S_.Idx := ⟨fun a b => funext fun i => i.elim0⟩

/-- A vector with a number at every entry. -/
theorem lift1 {a : ℕ} (x : (⟨1, ![a]⟩ : Shape).Idx → EReal) (h : ∀ i, ∃ r : ℝ, x i = (r : EReal)) : ∃ X, x = up1 X := by
  choose f hf using h
  exact ⟨fun i => f (ix1 i), funext fun y => by
    rw [hf]; show _ = ((f (ix1 (y 0)) : ℝ) : EReal)
    congr 2; funext k; match k with | ⟨0, _⟩ => rfl⟩

/-- A matrix with a number at every entry. -/
theorem lift2 {a b : ℕ} (x : (⟨2, ![a, b]⟩ : Shape).Idx → EReal) (h : ∀ i, ∃ r : ℝ, x i = (r : EReal)) : ∃ X, x = up2 X := by
  choose f hf using h
  exact ⟨fun i j => f (ix2 i j), funext fun y => by
    rw [hf]; show _ = ((f (ix2 (y 0) (y 1)) : ℝ) : EReal)
    congr 2; funext k; match k with | ⟨0, _⟩ => rfl | ⟨1, _⟩ => rfl⟩

/-- Finite arguments are the arrays of some rows and weights. -/
theorem exists_arrays [Facts] (a0 a1 : FVec Ideal S4096x1024 .f32) (a2 a3 : FVec Ideal S1024 .f32) (a4 : FVec Ideal S1024x4096 .f32)
    (a5 : FVec Ideal S4096x1024 .f32) (h : fn (F := Ideal) a0 a1 a2 a3 a4 a5 = fun _ => 1#1) :
    ∃ (P : Weights) (H T : Fin 4096 → Row), a0 = up2 H ∧ a1 = up2 T ∧ a2 = up1 P.g3 ∧ a3 = up1 P.g4 ∧ a4 = up2 P.w1 ∧ a5 = up2 P.w2 := by
  have h := congrFun h ix0
  unfold fn fn_part1 at h
  dsimp only at h
  obtain ⟨h, h5⟩ := and_one h
  obtain ⟨h, h4⟩ := and_one h
  obtain ⟨h, h3⟩ := and_one h
  obtain ⟨h, h2⟩ := and_one h
  obtain ⟨h0, h1⟩ := and_one h
  obtain ⟨H, e0⟩ := lift2 a0 (entries a0 _ _ _ _ h0)
  obtain ⟨T, e1⟩ := lift2 a1 (entries a1 _ _ _ _ h1)
  obtain ⟨g3, e2⟩ := lift1 a2 (entries a2 _ _ _ _ h2)
  obtain ⟨g4, e3⟩ := lift1 a3 (entries a3 _ _ _ _ h3)
  obtain ⟨w1, e4⟩ := lift2 a4 (entries a4 _ _ _ _ h4)
  obtain ⟨w2, e5⟩ := lift2 a5 (entries a5 _ _ _ _ h5)
  exact ⟨⟨g3, g4, w1, w2⟩, H, T, e0, e1, e2, e3, e4, e5⟩

end Cert.Finite
end
-- ==== Proof.Mix.Finite.lean ====
/- What the precondition says: every entry of every argument is a number. -/
module

public import proofs.«01_k».proof.Pre_finite_mix
public import proofs.«01_k».proof.Proof.Finite
public import proofs.«01_k».proof.Proof.Mix.Rows

@[expose] public section

noncomputable section

namespace Cert.Mixing

open Idealize.ShloMosaic Cert.Pre_finite_mix Cert.Lift Cert.Rows Cert.Finite

instance : Subsingleton S_.Idx := ⟨fun a b => funext fun i => i.elim0⟩

/-- An array of three dimensions with a number at every entry. -/
theorem lift3 {a b c : ℕ} (x : (⟨3, ![a, b, c]⟩ : Shape).Idx → EReal) (h : ∀ i, ∃ r : ℝ, x i = (r : EReal)) : ∃ X, x = up3 X := by
  choose f hf using h
  exact ⟨fun i j k => f (ix3 i j k), funext fun y => by
    rw [hf]; show _ = ((f (ix3 (y 0) (y 1) (y 2)) : ℝ) : EReal)
    congr 2; funext k; match k with | ⟨0, _⟩ => rfl | ⟨1, _⟩ => rfl | ⟨2, _⟩ => rfl⟩

/-- Finite arguments are the arrays of some tokens and weights. -/
theorem exists_arrays [Facts] (a0 a1 a2 : FVec Ideal S4096x1024 .f32) (a3 : FVec Ideal S4096x2048 .f32) (a4 a5 : FVec Ideal S1024 .f32)
    (a6 : FVec Ideal S1024x1024 .f32) (a7 : FVec Ideal S4x256x256 .f32) (a8 : FVec Ideal S1024 .f32) (a9 a10 : FVec Ideal S1024x1024 .f32)
    (a11 : FVec Ideal S1024 .f32) (h : fn (F := Ideal) a0 a1 a2 a3 a4 a5 a6 a7 a8 a9 a10 a11 = fun _ => 1#1) :
    ∃ (P : Params) (S : Fin 4096 → Token), (a0 = up2 fun i => (S i).d) ∧ (a1 = up2 fun i => (S i).u) ∧ (a2 = up2 fun i => (S i).z) ∧
      (a3 = up2 fun i => (S i).gt) ∧ a4 = up1 P.lg ∧ a5 = up1 P.lb ∧ a6 = up2 P.wco ∧ a7 = up3 P.pw ∧ a8 = up1 P.ps ∧ a9 = up2 P.wpo ∧
      a10 = up2 P.wo ∧ a11 = up1 P.g2 := by
  have h := congrFun h ix0
  unfold fn fn_part1 fn_part2 fn_part3 at h
  dsimp only at h
  obtain ⟨h, h11⟩ := and_one h
  obtain ⟨h, h10⟩ := and_one h
  obtain ⟨h, h9⟩ := and_one h
  obtain ⟨h, h8⟩ := and_one h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  obtain ⟨d, e0⟩ := lift2 a0 (entries a0 _ _ _ _ h0)
  obtain ⟨u, e1⟩ := lift2 a1 (entries a1 _ _ _ _ h1)
  obtain ⟨z, e2⟩ := lift2 a2 (entries a2 _ _ _ _ h2)
  obtain ⟨gt, e3⟩ := lift2 a3 (entries a3 _ _ _ _ h3)
  obtain ⟨lg, e4⟩ := lift1 a4 (entries a4 _ _ _ _ h4)
  obtain ⟨lb, e5⟩ := lift1 a5 (entries a5 _ _ _ _ h5)
  obtain ⟨wco, e6⟩ := lift2 a6 (entries a6 _ _ _ _ h6)
  obtain ⟨pw, e7⟩ := lift3 a7 (entries a7 _ _ _ _ h7)
  obtain ⟨ps, e8⟩ := lift1 a8 (entries a8 _ _ _ _ h8)
  obtain ⟨wpo, e9⟩ := lift2 a9 (entries a9 _ _ _ _ h9)
  obtain ⟨wo, e10⟩ := lift2 a10 (entries a10 _ _ _ _ h10)
  obtain ⟨g2, e11⟩ := lift1 a11 (entries a11 _ _ _ _ h11)
  exact ⟨{ lg := lg, lb := lb, wco := wco, pw := pw, ps := ps, wpo := wpo, wo := wo, g2 := g2 }, fun i => { d := d i, u := u i, z := z i, gt := gt i }, e0, e1, e2, e3, e4, e5, e6, e7, e8, e9, e10, e11⟩

end Cert.Mixing

end
-- ==== Proof.Mix.Claims.lean ====
/- The claims about the backward pass of the mixing sub-layer. -/
module

public import proofs.«01_k».proof.Defs
public import proofs.«01_k».proof.Proof.Gen.Pre_finite_mix
public import proofs.«01_k».proof.Proof.Mix.Arrays
public import proofs.«01_k».proof.Proof.Mix.Finite
public import Idealize.ShloMosaic.Adequacy
public import Idealize.ShloMosaic.Init
public import Idealize.ShloMosaic.Lib.Claim

@[expose] public section

noncomputable section

namespace Cert.Mixing

open Idealize.ShloMosaic Idealize.ShloMosaic.TcCoe Idealize.SL.Sem Cert.Lift Cert.Rows

/-- The kernel's frame, its run read at the extended reals. -/
theorem frame_ideal : Cert.quiescent_MixIdeal (hMixIdeal := Cert.MixIdeal.Gen.facts) := fun m ρ _ => frame (F := Ideal) m ρ

/-- The reference's frame: its run read at the arguments; it has no semaphore. -/
theorem frame_ri : Cert.quiescent_MixRefIdeal (hMixRefIdeal := Cert.MixRefIdeal.Gen.facts) := fun m ρ _ =>
  (θ_run Cert.MixRefIdeal.defs _ _).mono (fun r h => ⟨fun c => (h c).2.2.2.2.2.2.2.2, sem_eq_zero_of_no_sems (by decide) r.2⟩)
    (Cert.MixRefIdeal.Value.run (F := Ideal) m ρ)

/-- The reference's arguments are the kernel's. -/
theorem holds {P : Params} {S : Fin 4096 → Token} {m : (ℓ : Loc Cert.MixIdeal.nD Cert.MixIdeal.τ Cert.MixIdeal.sig) → Buf (Elt Ideal) ℓ} {c : Dev Cert.MixIdeal.nD}
    (G : Given P S m c) {m' : (ℓ : Loc Cert.MixRefIdeal.nD Cert.MixRefIdeal.τ Cert.MixRefIdeal.sig) → Buf (Elt Ideal) ℓ}
    (e : m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) :
    Holds P S (StableHlo.launchContents m' c) :=
  ⟨e.1.trans G.d, e.2.1.trans G.u, e.2.2.1.trans G.z, e.2.2.2.1.trans G.gt, e.2.2.2.2.1.trans G.lg, e.2.2.2.2.2.1.trans G.lb, e.2.2.2.2.2.2.1.trans G.wco, e.2.2.2.2.2.2.2.1.trans G.pw, e.2.2.2.2.2.2.2.2.1.trans G.ps, e.2.2.2.2.2.2.2.2.2.1.trans G.wpo, e.2.2.2.2.2.2.2.2.2.2.1.trans G.wo, e.2.2.2.2.2.2.2.2.2.2.2.trans G.g2⟩

set_option maxHeartbeats 4000000 in
/-- Over the extended reals, on finite arguments, the kernel's eight arrays are the reference's. -/
theorem algebraic : Cert.algebraic_MixIdeal_MixRefIdeal_pre_finite_mix (hMixIdeal := Cert.MixIdeal.Gen.facts)
    (hMixRefIdeal := Cert.MixRefIdeal.Gen.facts) (hPre_finite_mix := Cert.Pre_finite_mix.Gen.facts) := by
  letI := Cert.Pre_finite_mix.Gen.facts
  pair_intro
  · run_from run_blocks m g
  · run_from Cert.MixRefIdeal.Value.run m' g'
    all_goals
      obtain ⟨P, S, h0, h1, h2, h3, h4, h5, h6, h7, h8, h9, h10, h11⟩ := exists_arrays _ _ _ _ _ _ _ _ _ _ _ _ (hpre c)
      have G : Given P S m c := ⟨h0, h1, h2, h3, h4, h5, h6, h7, h8, h9, h10, h11⟩
      have A := holds G (hagree c)
    · rw [v89 A]
      exact (trunc _).trans (arr15 G A).symm
    · exact (out_dgt A).trans (arr16 G A).symm
    · rw [v93 A]
      exact (trunc _).trans (arr17 G A).symm
    · rw [v91 A]
      exact (trunc _).trans (arr18 G A).symm
    · rw [v131 A]
      exact (trunc _).trans (arr19 G A).symm
    · rw [v137 A]
      exact (trunc _).trans (arr20 G A).symm
    · rw [← (hagree c).2.2.2.2.2.2.2.1]
      exact (out_dz A).trans (arr21 G A).symm
    · rw [← (hagree c).1]
      exact (out_vec A).trans (arr22 G A).symm

end Cert.Mixing

end
-- ==== Proof.Mix.FrameKernel.lean ====
/- The frame of the mixing sub-layer's backward pass at the machine's floats: its run is the one over any floats. -/
module

public import proofs.«01_k».proof.Defs
public import proofs.«01_k».proof.Proof.Gen.Mix.Skeleton
public import proofs.«01_k».proof.Proof.Mix.Frame

@[expose] public section

noncomputable section

namespace Cert.Mixing

open Idealize.ShloMosaic Idealize.ShloMosaic.TcCoe Idealize.SL.Sem

set_option maxHeartbeats 8000000 in
/-- The two programs have the same table of kernel bodies … -/
theorem defs₀_eq : @Cert.Mix.defs₀ Bits _ Cert.Mix.Gen.facts = @Cert.MixIdeal.defs₀ Bits _ Cert.MixIdeal.Gen.facts :=
  congrArg Defs.onTc (funext fun l => by
    obtain ⟨n, h⟩ := l
    match n, h with
    | 0, _ => exact funext fun ⟨t, s⟩ => rfl
    | n + 1, h => exact absurd h (Nat.not_lt.2 (Nat.le_add_left _ _)))

set_option maxHeartbeats 8000000 in
theorem defs_eq : @Cert.Mix.defs Bits _ Cert.Mix.Gen.facts = @Cert.MixIdeal.defs Bits _ Cert.MixIdeal.Gen.facts :=
  congrArg (Pipeline.defs Cert.MixIdeal.pcfgs) defs₀_eq

set_option maxHeartbeats 8000000 in
/-- … and the same host function. -/
theorem main_eq : @Cert.Mix.main Bits _ Cert.Mix.Gen.facts = @Cert.MixIdeal.main Bits _ Cert.MixIdeal.Gen.facts := rfl

set_option maxHeartbeats 8000000 in
/-- The kernel's frame, its run read at the machine's floats. -/
theorem frame_kernel : Cert.quiescent_Mix (hMix := Cert.Mix.Gen.facts) := fun m ρ _ => by
  rw [defs_eq, main_eq]
  exact frame (F := Bits) m ρ

end Cert.Mixing

end
-- ==== Proof.Payloads.lean ====
/- One tile of the kernel: what each of its stored values is, on finite inputs, in terms of the rows' functions. -/
module

public import proofs.«01_k».proof.Proof.Rows
public import proofs.«01_k».proof.Proof.Gen.KernelIdeal.Skeleton

@[expose] public section

set_option maxRecDepth 16384

noncomputable section

namespace Cert.Payloads

open Idealize.ShloMosaic Cert.KernelIdeal Cert.KernelIdeal.Gen Cert.Lift Cert.Rows

theorem at2 {a b : ℕ} (X : Fin a → Fin b → ℝ) (i : Fin a) (j : Fin b) : up2 X (ix2 i j) = ((X i j : ℝ) : EReal) := by
  rw [up2]; rfl
theorem at3 {a b c : ℕ} (X : Fin a → Fin b → Fin c → ℝ) (i : Fin a) (j : Fin b) (k : Fin c) :
    up3 X (ix3 i j k) = ((X i j k : ℝ) : EReal) := by rw [up3]; rfl
theorem max_zero (x : ℝ) : max (x : EReal) 0 = ((max x 0 : ℝ) : EReal) := by
  rw [← EReal.coe_zero, coe_max]

/-- Column `j` of chunk `c` of the hidden units. -/
def col (c : Fin 4) (j : Fin 1024) : Fin 4096 := ⟨c.val * 1024 + j.val, by omega⟩

/-- A sum over the hidden units, chunk by chunk. -/
theorem sum_col (f : Fin 4096 → ℝ) :
    ∑ j, f j = (((∑ j, f (col 0 j)) + ∑ j, f (col 1 j)) + ∑ j, f (col 2 j)) + ∑ j, f (col 3 j) := by
  rw [← Fin.sum_univ_four (fun c => ∑ j, f (col c j)), ← Fintype.sum_prod_type']
  exact (Fintype.sum_equiv (finProdFinEquiv (m := 4) (n := 1024)) _ _ fun x => congrArg f (Fin.ext (by
    simp [col, finProdFinEquiv]; ring))).symm

variable (P : Weights) (H T : Fin 256 → Row)

/-- A row as a matrix of one row. -/
def row (g : Row) : Fin 1 → Row := fun _ => g
/-- Chunk `c` of the first matrix. -/
def in1 (c : Fin 4) : Fin 1 → Fin 1024 → Fin 1024 → ℝ := fun _ k j => P.w1 k (col c j)
/-- Chunk `c` of the second matrix. -/
def in2 (c : Fin 4) : Fin 1024 → Fin 1024 → ℝ := fun j k => P.w2 (col c j) k

/-- The tile's reciprocal root mean squares. -/
def r3T : Fin 256 → Fin 1 → ℝ := fun i _ => inv (H i)
/-- The tile's normalised rows. -/
def n3T : Fin 256 → Row := fun i => unit (H i)
/-- … with the gain. -/
def vT : Fin 256 → Row := fun i => v P (H i)
/-- Chunk `c` of the tile's hidden units. -/
def f1T (c : Fin 4) : Fin 256 → Row := fun i j => f1 P (H i) (col c j)
/-- … squared. -/
def a2T (c : Fin 4) : Fin 256 → Row := fun i j => a2 P (H i) (col c j)
/-- The share of chunk `c` in the second product. -/
def part (c : Fin 4) : Fin 256 → Row := fun i k => ∑ j, a2T P H c i j * in2 P c j k
/-- The second product after two chunks. -/
def f2H : Fin 256 → Row := fun i k => part P H 0 i k + part P H 1 i k
/-- The second product. -/
def f2T : Fin 256 → Row := fun i => f2 P (H i)
/-- Its reciprocal root mean squares. -/
def r4T : Fin 256 → Fin 1 → ℝ := fun i _ => inv (f2 P (H i))
/-- Its rows normalised. -/
def n4T : Fin 256 → Row := fun i => unit (f2 P (H i))
/-- The distance from the target. -/
def errT : Fin 256 → Row := fun i => err P (H i) (T i)
/-- The gradient by the output. -/
def dh2T : Fin 256 → Row := fun i => dh2 P (H i) (T i)
/-- … by the second product. -/
def df2T : Fin 256 → Row := fun i => df2 P (H i) (T i)
/-- … by chunk `c` of the squared hidden units. -/
def da2T (c : Fin 4) : Fin 256 → Row := fun i j => ∑ k, df2T P H T i k * in2 P c j k
/-- … by chunk `c` of the first product. -/
def df1T (c : Fin 4) : Fin 256 → Row := fun i j => df1 P (H i) (T i) (col c j)
/-- The share of chunk `c` in the gradient by the first norm's result. -/
def back (c : Fin 4) : Fin 256 → Row := fun i k => ∑ j, df1T P H T c i j * in1 P c 0 k j
/-- That gradient after two chunks. -/
def dvH : Fin 256 → Row := fun i k => back P H T 0 i k + back P H T 1 i k
/-- That gradient. -/
def dvT : Fin 256 → Row := fun i => dv P (H i) (T i)
/-- … times the gain. -/
def dn3T : Fin 256 → Row := fun i k => dv P (H i) (T i) k * P.g3 k
/-- … and its row sums against the normalised rows. -/
def dotT : Fin 256 → Fin 1 → ℝ := fun i _ => ∑ k, dn3T P H T i k * n3T H i k
/-- The gradient by the tile. -/
def dh1T : Fin 256 → Row := fun i => dh1 P (H i) (T i)

theorem pay3 : k0_pay3 (F := Ideal) (up2 H) = up2 (r3T H) := by
  funext y; idx_vars y
  pointwise [k0_pay3]
  simp only [at2, bits_1024, bits_eps, ← EReal.coe_mul, coe_sum]
  rw [coe_div _ _ (by norm_num), ← EReal.coe_add, coe_rsqrt _ (ms_pos _ _ (by norm_num))]
  rfl

theorem pay4 : k0_pay4 (F := Ideal) (up2 H) = up2 (n3T H) := by
  funext y; idx_vars y
  unfold k0_pay4; rw [pay3]; pointwise
  simp only [at2, ← EReal.coe_mul]; rfl

theorem pay5 : k0_pay5 (F := Ideal) (up2 H) (up2 (row P.g3)) = up2 (vT P H) := by
  funext y; idx_vars y
  unfold k0_pay5; rw [pay4]; pointwise
  simp only [at2, ← EReal.coe_mul]; rfl

theorem pay7 : k0_pay7 (F := Ideal) (up2 H) (up2 (row P.g3)) (up3 (in1 P 0)) = up2 (f1T P H 0) := by
  funext y; idx_vars y
  unfold k0_pay7; rw [pay5]; pointwise
  simp only [at2, at3, ← EReal.coe_mul, coe_sum, max_zero]; rfl

theorem pay8 : k0_pay8 (F := Ideal) (up2 H) (up2 (row P.g3)) (up3 (in1 P 0)) = up2 (f1T P H 0) := by
  funext y; idx_vars y
  unfold k0_pay8; rw [pay7]; pointwise

theorem pay9 : k0_pay9 (F := Ideal) (up2 H) (up2 (row P.g3)) (up3 (in1 P 0)) = up2 (a2T P H 0) := by
  funext y; idx_vars y
  unfold k0_pay9; rw [pay7]; pointwise
  simp only [at2, ← EReal.coe_mul]; rfl

theorem pay10 (c : Fin 4) : k0_pay10 (F := Ideal) (up2 (vT P H)) (up3 (in1 P c)) = up2 (f1T P H c) := by
  funext y; idx_vars y
  pointwise [k0_pay10]
  simp only [at2, at3, ← EReal.coe_mul, coe_sum, max_zero]; rfl

theorem pay11 (c : Fin 4) : k0_pay11 (F := Ideal) (up2 (vT P H)) (up3 (in1 P c)) = up2 (f1T P H c) := by
  funext y; idx_vars y
  unfold k0_pay11; rw [pay10]; pointwise

theorem pay12 (c : Fin 4) : k0_pay12 (F := Ideal) (up2 (vT P H)) (up3 (in1 P c)) = up2 (a2T P H c) := by
  funext y; idx_vars y
  unfold k0_pay12; rw [pay10]; pointwise
  simp only [at2, ← EReal.coe_mul]; rfl

theorem pay13 : k0_pay13 (F := Ideal) (up2 (vT P H)) k0_pay6 (up2 (a2T P H 0)) (up2 (in2 P 0)) (up3 (in1 P 1)) (up2 (in2 P 1)) =
    up2 (f2H P H) := by
  funext y; idx_vars y
  unfold k0_pay13; rw [pay12]; pointwise [k0_pay6]
  simp only [at2, ← EReal.coe_mul, coe_sum, ← EReal.coe_add]; rfl

theorem pay14 (c : Fin 4) : k0_pay14 (F := Ideal) (up2 (vT P H)) (up3 (in1 P c)) = up2 (f1T P H c) := pay10 P H c
theorem pay15 (c : Fin 4) : k0_pay15 (F := Ideal) (up2 (vT P H)) (up3 (in1 P c)) = up2 (f1T P H c) := pay11 P H c
theorem pay16 (c : Fin 4) : k0_pay16 (F := Ideal) (up2 (vT P H)) (up3 (in1 P c)) = up2 (a2T P H c) := pay12 P H c
theorem pay18 (c : Fin 4) : k0_pay18 (F := Ideal) (up2 (vT P H)) (up3 (in1 P c)) = up2 (f1T P H c) := pay10 P H c
theorem pay19 (c : Fin 4) : k0_pay19 (F := Ideal) (up2 (vT P H)) (up3 (in1 P c)) = up2 (f1T P H c) := pay11 P H c
theorem pay20 (c : Fin 4) : k0_pay20 (F := Ideal) (up2 (vT P H)) (up3 (in1 P c)) = up2 (a2T P H c) := pay12 P H c

theorem pay17 (X : Fin 1024 → Fin 1024 → ℝ) : k0_pay17 (F := Ideal) (up2 X) = up2 X := by
  funext y; idx_vars y
  pointwise [k0_pay17]

theorem pay21 : k0_pay21 (F := Ideal) (up2 (vT P H)) (up2 (f2H P H)) (up2 (a2T P H 2)) (up2 (in2 P 2)) (up3 (in1 P 3)) (up2 (in2 P 3)) =
    up2 (f2T P H) := by
  funext y; idx_vars y
  unfold k0_pay21; rw [pay20]; pointwise
  simp only [at2, ← EReal.coe_mul, coe_sum, ← EReal.coe_add]
  refine congrArg _ ?_
  unfold f2T f2
  rw [sum_col]; rfl

theorem pay22 : k0_pay22 (F := Ideal) (up2 (vT P H)) (up2 (f2H P H)) (up2 (a2T P H 2)) (up2 (in2 P 2)) (up3 (in1 P 3)) (up2 (in2 P 3)) =
    up2 (r4T P H) := by
  funext y; idx_vars y
  unfold k0_pay22; rw [pay21]; pointwise
  simp only [at2, bits_1024, bits_eps, ← EReal.coe_mul, coe_sum]
  rw [coe_div _ _ (by norm_num), ← EReal.coe_add, coe_rsqrt _ (ms_pos _ _ (by norm_num))]
  rfl

theorem pay23 : k0_pay23 (F := Ideal) (up2 (vT P H)) (up2 (f2H P H)) (up2 (a2T P H 2)) (up2 (in2 P 2)) (up3 (in1 P 3)) (up2 (in2 P 3)) =
    up2 (n4T P H) := by
  funext y; idx_vars y
  unfold k0_pay23; rw [pay22, pay21]; pointwise
  simp only [at2, ← EReal.coe_mul]; rfl

theorem pay24 : k0_pay24 (F := Ideal) (up2 H) (up2 (vT P H)) (up2 (f2H P H)) (up2 (a2T P H 2)) (up2 (in2 P 2)) (up3 (in1 P 3)) (up2 (in2 P 3))
    (up2 (row P.g4)) (up2 T) = up2 (errT P H T) := by
  funext y; idx_vars y
  unfold k0_pay24; rw [pay23]; pointwise
  simp only [at2, ← EReal.coe_mul, ← EReal.coe_add, ← EReal.coe_sub]; rfl

theorem pay25 (X : Fin 1 → Row) : k0_pay25 (F := Ideal) (up2 X) = up2 X := by
  funext y; idx_vars y
  pointwise [k0_pay25]

theorem pay26 (X : Fin 256 → Row) (R : Fin 1 → Row) : k0_pay26 (F := Ideal) (up2 X) (up2 R) =
    up2 fun i k => R i k + (∑ t, X t k * X t k) * (1 / 2048) := by
  funext y; idx_vars y
  pointwise [k0_pay26]
  simp only [at2, bits_1_2048, ← EReal.coe_mul, coe_sum, ← EReal.coe_add]

theorem pay27 : k0_pay27 (F := Ideal) (up2 (errT P H T)) = up2 (dh2T P H T) := by
  funext y; idx_vars y
  pointwise [k0_pay27]
  simp only [at2, bits_1_1024, ← EReal.coe_mul]; rfl

theorem pay28 (R : Fin 1 → Row) : k0_pay28 (F := Ideal) (up2 (n4T P H)) (up2 (errT P H T)) (up2 R) =
    up2 fun i k => R i k + ∑ t, dh2T P H T t k * n4T P H t k := by
  funext y; idx_vars y
  unfold k0_pay28; rw [pay27]; pointwise
  simp only [at2, ← EReal.coe_mul, coe_sum, ← EReal.coe_add]

theorem pay29 : k0_pay29 (F := Ideal) (up2 (r4T P H)) (up2 (n4T P H)) (up2 (errT P H T)) (up2 (row P.g4)) = up2 (df2T P H T) := by
  funext y; idx_vars y
  unfold k0_pay29; rw [pay27]; pointwise
  simp only [at2, bits_1024, ← EReal.coe_mul, coe_sum]
  rw [coe_div _ _ (by norm_num)]
  simp only [← EReal.coe_mul, ← EReal.coe_sub]; rfl

theorem pay31 : k0_pay31 (F := Ideal) (up2 (r4T P H)) (up2 (n4T P H)) (up2 (errT P H T)) (up2 (row P.g4)) (up2 (in2 P 0)) =
    up2 (da2T P H T 0) := by
  funext y; idx_vars y
  unfold k0_pay31; rw [pay29]; pointwise
  simp only [at2, ← EReal.coe_mul, coe_sum]; rfl

theorem pay32 : k0_pay32 (F := Ideal) (up2 (da2T P H T 0)) (up2 (f1T P H 0)) = up2 (df1T P H T 0) := by
  funext y; idx_vars y
  pointwise [k0_pay32]
  simp only [at2, bits_two, ← EReal.coe_mul]; rfl

theorem pay33 (c : Fin 4) : k0_pay33 (F := Ideal) (up2 (df2T P H T)) (up2 (in2 P c)) (up2 (f1T P H c)) = up2 (df1T P H T c) := by
  funext y; idx_vars y
  pointwise [k0_pay33]
  simp only [at2, bits_two, ← EReal.coe_mul, coe_sum]; rfl

theorem pay34 : k0_pay34 (F := Ideal) (up2 (df2T P H T)) k0_pay30 (up2 (da2T P H T 0)) (up2 (f1T P H 0)) (up3 (in1 P 0)) (up2 (in2 P 1))
    (up2 (f1T P H 1)) (up3 (in1 P 1)) = up2 (dvH P H T) := by
  funext y; idx_vars y
  unfold k0_pay34; rw [pay32, pay33]; pointwise [k0_pay30]
  simp only [at2, at3, ← EReal.coe_mul, coe_sum, ← EReal.coe_add]; rfl

theorem pay35 (c : Fin 4) : k0_pay35 (F := Ideal) (up2 (df2T P H T)) (up2 (in2 P c)) (up2 (f1T P H c)) = up2 (df1T P H T c) := pay33 P H T c
theorem pay36 (c : Fin 4) : k0_pay36 (F := Ideal) (up2 (df2T P H T)) (up2 (in2 P c)) (up2 (f1T P H c)) = up2 (df1T P H T c) := pay33 P H T c

theorem pay37 : k0_pay37 (F := Ideal) (up2 (df2T P H T)) (up2 (dvH P H T)) (up2 (df1T P H T 2)) (up3 (in1 P 2)) (up2 (in2 P 3))
    (up2 (f1T P H 3)) (up3 (in1 P 3)) = up2 (dvT P H T) := by
  funext y; idx_vars y
  unfold k0_pay37; rw [pay36]; pointwise
  simp only [at2, at3, ← EReal.coe_mul, coe_sum, ← EReal.coe_add]
  refine congrArg _ ?_
  unfold dvT dv
  rw [sum_col]; rfl

theorem pay38 (R : Fin 1 → Row) : k0_pay38 (F := Ideal) (up2 (n3T H)) (up2 (df2T P H T)) (up2 (dvH P H T)) (up2 (df1T P H T 2)) (up3 (in1 P 2))
    (up2 (in2 P 3)) (up2 (f1T P H 3)) (up3 (in1 P 3)) (up2 R) = up2 fun i k => R i k + ∑ t, dvT P H T t k * n3T H t k := by
  funext y; idx_vars y
  unfold k0_pay38; rw [pay37]; pointwise
  simp only [at2, ← EReal.coe_mul, coe_sum, ← EReal.coe_add]

theorem pay39 : k0_pay39 (F := Ideal) (up2 (df2T P H T)) (up2 (dvH P H T)) (up2 (df1T P H T 2)) (up3 (in1 P 2))
    (up2 (in2 P 3)) (up2 (f1T P H 3)) (up3 (in1 P 3)) (up2 (row P.g3)) = up2 (dn3T P H T) := by
  funext y; idx_vars y
  unfold k0_pay39; rw [pay37]; pointwise
  simp only [at2, ← EReal.coe_mul]; rfl

theorem pay40 : k0_pay40 (F := Ideal) (up2 (n3T H)) (up2 (df2T P H T)) (up2 (dvH P H T)) (up2 (df1T P H T 2)) (up3 (in1 P 2))
    (up2 (in2 P 3)) (up2 (f1T P H 3)) (up3 (in1 P 3)) (up2 (row P.g3)) = up2 (dotT P H T) := by
  funext y; idx_vars y
  unfold k0_pay40; rw [pay39]; pointwise
  simp only [at2, ← EReal.coe_mul, coe_sum]; rfl

theorem pay1 : k0_pay1 (F := Ideal) (up2 (r3T H)) (up2 (n3T H)) (up2 (dh2T P H T)) (up2 (dn3T P H T)) (up2 (dotT P H T)) = up2 (dh1T P H T) := by
  funext y; idx_vars y
  pointwise [k0_pay1]
  simp only [at2, bits_1024]
  rw [coe_div _ _ (by norm_num)]
  simp only [← EReal.coe_mul, ← EReal.coe_sub, ← EReal.coe_add]; rfl

end Cert.Payloads

end
-- ==== Proof.Tiles.lean ====
/- What the kernel's point `t` reads and leaves, on finite arguments. -/
module

public import proofs.«01_k».proof.Proof.Payloads
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Tiles

open Idealize.ShloMosaic Idealize.ShloMosaic.TcCoe Cert.KernelIdeal Cert.KernelIdeal.Gen Cert.Lift Cert.Rows Cert.Payloads

variable (P : Weights) (H T : Fin 4096 → Row)

/-- Device `c`'s arguments are the finite arrays of these names. -/
structure Given (m : (ℓ : Loc nD τ sig) → Buf (Elt Ideal) ℓ) (c : Dev nD) : Prop where
  h : m ((c : Thread nD τ).loc main_arg0) = up2 H
  t : m ((c : Thread nD τ).loc main_arg1) = up2 T
  g3 : m ((c : Thread nD τ).loc main_arg2) = up1 P.g3
  g4 : m ((c : Thread nD τ).loc main_arg3) = up1 P.g4
  w1 : m ((c : Thread nD τ).loc main_arg4) = up2 P.w1
  w2 : m ((c : Thread nD τ).loc main_arg5) = up2 P.w2

/-- The 256 rows of point `t`. -/
def tile (X : Fin 4096 → Row) (t : Fin cfg0.N) : Fin 256 → Row :=
  fun i => X ⟨t.val * 256 + i.val, by have : t.val < 16 := t.isLt; omega⟩

/-- Every window's block index at every point. -/
theorem idx : ∀ t : Fin cfg0.N, (win0_0.index t = ![t.val, 0] ∧ win0_1.index t = ![t.val, 0] ∧ win0_2.index t = ![0, 0] ∧
    win0_3.index t = ![0, 0]) ∧ (win0_4.index t = ![0, 0, 0] ∧ win0_5.index t = ![0, 0] ∧ win0_6.index t = ![t.val, 0] ∧
    win0_7.index t = ![t.val, 0]) ∧ (win0_8.index t = ![t.val, 0] ∧ win0_9.index t = ![t.val, 0] ∧ win0_10.index t = ![t.val, 0] ∧
    win0_11.index t = ![0, 0]) :=
  (by decide +kernel : ∀ t : Fin grid0.N, _)

variable {P H T} {m : (ℓ : Loc nD τ sig) → Buf (Elt Ideal) ℓ} {c : Dev nD} (G : Given P H T m c)
include G

theorem iblk0 (t : Fin cfg0.N) : iblk m c 0 t = up2 (tile H t) := by
  funext y
  have e : iblk m c 0 t y = m ((c : Thread nD τ).loc main_arg0) (ix2 ⟨t.val * 256 + (y 0).val, by
      have : t.val < 16 := t.isLt; have : (y 0).val < 256 := (y 0).isLt; omega⟩ (y 1)) := by
    blk_ext! [iblk, V, idx t]
  rw [e, G.h]; rfl

theorem iblk1 (t : Fin cfg0.N) : iblk m c 1 t = up2 (tile T t) := by
  funext y
  have e : iblk m c 1 t y = m ((c : Thread nD τ).loc main_arg1) (ix2 ⟨t.val * 256 + (y 0).val, by
      have : t.val < 16 := t.isLt; have : (y 0).val < 256 := (y 0).isLt; omega⟩ (y 1)) := by
    blk_ext! [iblk, V, idx t]
  rw [e, G.t]; rfl

theorem host4 : V m c main_v4 = up2 (row P.g3) := by
  entry_read
  funext y; idx_vars y; pointwise
  rw [G.g3]; rfl

theorem host5 : V m c main_v5 = up2 (row P.g4) := by
  entry_read
  funext y; idx_vars y; pointwise
  rw [G.g4]; rfl

theorem host2 : V m c main_v2 = up3 fun q k j => P.w1 k (col q j) := by
  entry_read
  funext y; idx_vars y; pointwise
  rw [G.w1]; rfl

theorem host3 : V m c main_v3 = up2 P.w2 := by
  entry_read
  funext y; idx_vars y; pointwise
  rw [G.w2]

theorem iblk2 (t : Fin cfg0.N) : iblk m c 2 t = up2 (row P.g3) := by
  rw [← host4 G]
  funext y
  blk_ext! [iblk, idx t]

theorem iblk3 (t : Fin cfg0.N) : iblk m c 3 t = up2 (row P.g4) := by
  rw [← host5 G]
  funext y
  blk_ext! [iblk, idx t]

theorem iblk4 (t : Fin cfg0.N) : iblk m c 4 t = up3 fun q k j => P.w1 k (col q j) := by
  rw [← host2 G]
  funext y
  blk_ext! [iblk, idx t]

theorem iblk5 (t : Fin cfg0.N) : iblk m c 5 t = up2 P.w2 := by
  rw [← host3 G]
  funext y
  blk_ext! [iblk, idx t]

end Cert.Tiles

end
-- ==== Proof.Outs.lean ====
/- The six blocks that the kernel's point `t` leaves, on finite arguments. -/
module

public import proofs.«01_k».proof.Proof.Tiles
public import Idealize.ShloMosaic.Lib.WritesUnit

@[expose] public section

set_option maxRecDepth 16384

noncomputable section

namespace Cert.Tiles

open Idealize.ShloMosaic Idealize.ShloMosaic.TcCoe Cert.KernelIdeal Cert.KernelIdeal.Gen Cert.Lift Cert.Rows Cert.Payloads

/-- Chunk `q` of the first matrix, loaded out of the chunks' box. -/
theorem ld1 (P : Weights) (q : Fin 4) {n : ℕ} {h} (hn : q.val = n) : View.ld (Val := Elt Ideal) (e' := EltTy.bf16) (up3 fun (q : Fin 4) k j => P.w1 k (col q j))
    (Rect.unit (s := S4x1024x1024) ![n, 0, 0] ![1, 1024, 1024] h) = up3 (in1 P q) := by
  funext y
  refine (View.ld_unit_apply_of (S := S4x1024x1024) (Val := Elt Ideal) (e := EltTy.bf16) (up3 fun (q : Fin 4) k j => P.w1 k (col q j))
    ![n, 0, 0] ![1, 1024, 1024] h y (ix3 q (y 1) (y 2)) fun a => ?_).trans rfl
  subst hn
  match a with
  | ⟨0, _⟩ => have : (y 0).val < 1 := (y 0).isLt; show q.val = q.val + (y 0).val; omega
  | ⟨1, _⟩ => show (y 1).val = 0 + (y 1).val; omega
  | ⟨2, _⟩ => show (y 2).val = 0 + (y 2).val; omega
theorem ld1_0 (P : Weights) {h} : View.ld (Val := Elt Ideal) (e' := EltTy.bf16) (up3 fun (q : Fin 4) k j => P.w1 k (col q j))
    (Rect.unit (s := S4x1024x1024) ![0, 0, 0] ![1, 1024, 1024] h) = up3 (in1 P 0) := ld1 P 0 rfl
theorem ld1_1 (P : Weights) {h} : View.ld (Val := Elt Ideal) (e' := EltTy.bf16) (up3 fun (q : Fin 4) k j => P.w1 k (col q j))
    (Rect.unit (s := S4x1024x1024) ![1, 0, 0] ![1, 1024, 1024] h) = up3 (in1 P 1) := ld1 P 1 rfl
theorem ld1_2 (P : Weights) {h} : View.ld (Val := Elt Ideal) (e' := EltTy.bf16) (up3 fun (q : Fin 4) k j => P.w1 k (col q j))
    (Rect.unit (s := S4x1024x1024) ![2, 0, 0] ![1, 1024, 1024] h) = up3 (in1 P 2) := ld1 P 2 rfl
theorem ld1_3 (P : Weights) {h} : View.ld (Val := Elt Ideal) (e' := EltTy.bf16) (up3 fun (q : Fin 4) k j => P.w1 k (col q j))
    (Rect.unit (s := S4x1024x1024) ![3, 0, 0] ![1, 1024, 1024] h) = up3 (in1 P 3) := ld1 P 3 rfl

/-- Chunk `q` of the second matrix, loaded out of the matrix. -/
theorem ld2 (P : Weights) (q : Fin 4) {n : ℕ} {h} (hn : q.val * 1024 = n) : View.ld (Val := Elt Ideal) (e' := EltTy.bf16) (up2 P.w2)
    (Rect.unit (s := S4096x1024) ![n, 0] ![1024, 1024] h) = up2 (in2 P q) := by
  funext y
  refine (View.ld_unit_apply_of (S := S4096x1024) (Val := Elt Ideal) (e := EltTy.bf16) (up2 P.w2) ![n, 0] ![1024, 1024] h y (ix2 (col q (y 0)) (y 1)) fun a => ?_).trans rfl
  subst hn
  match a with
  | ⟨0, _⟩ => rfl
  | ⟨1, _⟩ => show (y 1).val = 0 + (y 1).val; omega
theorem ld2_0 (P : Weights) {h} : View.ld (Val := Elt Ideal) (e' := EltTy.bf16) (up2 P.w2)
    (Rect.unit (s := S4096x1024) ![0, 0] ![1024, 1024] h) = up2 (in2 P 0) := ld2 P 0 rfl
theorem ld2_1 (P : Weights) {h} : View.ld (Val := Elt Ideal) (e' := EltTy.bf16) (up2 P.w2)
    (Rect.unit (s := S4096x1024) ![1024, 0] ![1024, 1024] h) = up2 (in2 P 1) := ld2 P 1 rfl
theorem ld2_2 (P : Weights) {h} : View.ld (Val := Elt Ideal) (e' := EltTy.bf16) (up2 P.w2)
    (Rect.unit (s := S4096x1024) ![2048, 0] ![1024, 1024] h) = up2 (in2 P 2) := ld2 P 2 rfl
theorem ld2_3 (P : Weights) {h} : View.ld (Val := Elt Ideal) (e' := EltTy.bf16) (up2 P.w2)
    (Rect.unit (s := S4096x1024) ![3072, 0] ![1024, 1024] h) = up2 (in2 P 3) := ld2 P 3 rfl

/-- Row `r` of the eight, loaded. -/
theorem ld8 (A : Fin 8 → Row) (r : Fin 8) {n : ℕ} {h} (hn : r.val = n) : View.ld (Val := Elt Ideal) (e' := EltTy.f32) (up2 A)
    (Rect.unit (s := S8x1024) ![n, 0] ![1, 1024] h) = up2 (row (A r)) := by
  funext y
  refine (View.ld_unit_apply_of (S := S8x1024) (Val := Elt Ideal) (e := EltTy.f32) (up2 A) ![n, 0] ![1, 1024] h y (ix2 r (y 1)) fun a => ?_).trans rfl
  subst hn
  match a with
  | ⟨0, _⟩ => have : (y 0).val < 1 := (y 0).isLt; show r.val = r.val + (y 0).val; omega
  | ⟨1, _⟩ => show (y 1).val = 0 + (y 1).val; omega
theorem ld8_0 (A : Fin 8 → Row) {h} : View.ld (Val := Elt Ideal) (e' := EltTy.f32) (up2 A)
    (Rect.unit (s := S8x1024) ![0, 0] ![1, 1024] h) = up2 (row (A 0)) := ld8 A 0 rfl
theorem ld8_1 (A : Fin 8 → Row) {h} : View.ld (Val := Elt Ideal) (e' := EltTy.f32) (up2 A)
    (Rect.unit (s := S8x1024) ![1, 0] ![1, 1024] h) = up2 (row (A 1)) := ld8 A 1 rfl
theorem ld8_2 (A : Fin 8 → Row) {h} : View.ld (Val := Elt Ideal) (e' := EltTy.f32) (up2 A)
    (Rect.unit (s := S8x1024) ![2, 0] ![1, 1024] h) = up2 (row (A 2)) := ld8 A 2 rfl

theorem pay2 : k0_pay2 (F := Ideal) = up2 (a := 8) (b := 1024) fun _ _ => 0 := by
  funext y; idx_vars y
  pointwise [k0_pay2]
  rw [at2, EReal.coe_zero]

/-- Rows 0, 1 and 2 stored one by one over eight rows. -/
theorem rows3 {sg : RefSig} {κ : Kind} {sp : Space} (v : View sg κ sp S8x1024 EltTy.f32) (f : v.ty.Contents (Elt Ideal)) (W0 W1 W2 : Fin 1 → Row)
    (B : Fin 8 → Row) (L : List (View.Piece (Elt Ideal) S8x1024 EltTy.f32)) (hL : v.read (Elt Ideal) (v.writes (Elt Ideal) f L) = up2 B) {h0 h1 h2} :
    v.read (Elt Ideal) (v.writes (Elt Ideal) f (⟨Rect.unit ![0, 0] ![1, 1024] h0, up2 W0⟩ :: ⟨Rect.unit ![1, 0] ![1, 1024] h1, up2 W1⟩ ::
      ⟨Rect.unit ![2, 0] ![1, 1024] h2, up2 W2⟩ :: L)) =
    up2 fun r k => if r = 0 then W0 0 k else if r = 1 then W1 0 k else if r = 2 then W2 0 k else B r k := by
  funext y
  obtain ⟨r, k, rfl⟩ : ∃ (r : Fin 8) (k : Fin 1024), y = ix2 r k :=
    ⟨y 0, y 1, by funext a; match a with | ⟨0, _⟩ => rfl | ⟨1, _⟩ => rfl⟩
  by_cases e0 : r = 0
  · subst e0
    rw [View.read_writes_cons_rows_of_mem v f (d := ![8, 1024]) h0 _ _ (ix2 0 k) (ix2 0 k) rfl rfl rfl]
    simp only [at2, if_true]
  have n0 : r.val ≠ 0 := fun e => e0 (Fin.ext e)
  rw [View.read_writes_cons_rows_of_not_mem v f (d := ![8, 1024]) h0 _ _ (ix2 r k) rfl rfl (by right; show 0 + 1 ≤ r.val; omega)]
  by_cases e1 : r = 1
  · subst e1
    rw [View.read_writes_cons_rows_of_mem v f (d := ![8, 1024]) h1 _ _ (ix2 1 k) (ix2 0 k) rfl rfl rfl]
    simp only [at2, if_neg e0, if_true]
  have n1 : r.val ≠ 1 := fun e => e1 (Fin.ext e)
  rw [View.read_writes_cons_rows_of_not_mem v f (d := ![8, 1024]) h1 _ _ (ix2 r k) rfl rfl (by right; show 1 + 1 ≤ r.val; omega)]
  by_cases e2 : r = 2
  · subst e2
    rw [View.read_writes_cons_rows_of_mem v f (d := ![8, 1024]) h2 _ _ (ix2 2 k) (ix2 0 k) rfl rfl rfl]
    simp only [at2, if_neg e0, if_neg e1, if_true]
  have n2 : r.val ≠ 2 := fun e => e2 (Fin.ext e)
  rw [View.read_writes_cons_rows_of_not_mem v f (d := ![8, 1024]) h2 _ _ (ix2 r k) rfl rfl (by right; show 2 + 1 ≤ r.val; omega), hL,
    at2, at2, if_neg e0, if_neg e1, if_neg e2]

/-- A chunk of the hidden units' columns out of the whole row of them. -/
theorem chunk (X : Fin 256 → Fin 4096 → ℝ) (q : Fin 4) (x : (⟨2, ![256, 1024]⟩ : Shape).Idx) (y : S256x4096.Idx) (h0 : (y 0).val = (x 0).val)
    (h1 : (y 1).val = q.val * 1024 + (x 1).val) : up2 (a := 256) (b := 1024) (fun i j => X i (col q j)) x = up2 X y := by
  have e0 : y 0 = x 0 := Fin.ext h0
  have e1 : y 1 = col q (x 1) := Fin.ext h1
  unfold up2
  rw [e0, e1]

variable {P : Weights} {H T : Fin 4096 → Row} {m : (ℓ : Loc nD τ sig) → Buf (Elt Ideal) ℓ} {c : Dev nD} (G : Given P H T m c)
include G

theorem t6 (n : ℕ) (h : n < cfg0.N) : (outsAt0 m c n h).1 = up2 (vT P (tile H ⟨n, h⟩)) := by
  by_cases h0 : n % 16 = 0
  · rw [outsAt0_A m c ⟨n, h⟩ h0]
    frame_out
    rw [iblk0 G, iblk2 G, pay5]
  · rw [outsAt0_B m c ⟨n, h⟩ h0]
    frame_out
    rw [iblk0 G, iblk2 G, pay5]

theorem t7 (n : ℕ) (h : n < cfg0.N) : (outsAt0 m c n h).2.1 = up2 fun i => a2 P (tile H ⟨n, h⟩ i) := by
  by_cases h0 : n % 16 = 0
  · rw [outsAt0_A m c ⟨n, h⟩ h0]
    frame_out
    simp only [iblk0 G, iblk2 G, iblk4 G, ld1_0, ld1_1, ld1_2, ld1_3, pay5, pay9, pay12, pay16, pay20]
    funext y
    canon_tiles x h
    · exact chunk (fun i => a2 P (tile H ⟨n, h⟩ i)) 3 x y h0 h1
    · exact chunk (fun i => a2 P (tile H ⟨n, h⟩ i)) 2 x y h0 h1
    · exact chunk (fun i => a2 P (tile H ⟨n, h⟩ i)) 1 x y h0 h1
    · exact chunk (fun i => a2 P (tile H ⟨n, h⟩ i)) 0 x y h0 (by rw [h1]; show _ = 0 * 1024 + _; omega)
  · rw [outsAt0_B m c ⟨n, h⟩ h0]
    frame_out
    simp only [iblk0 G, iblk2 G, iblk4 G, ld1_0, ld1_1, ld1_2, ld1_3, pay5, pay9, pay12, pay16, pay20]
    funext y
    canon_tiles x h
    · exact chunk (fun i => a2 P (tile H ⟨n, h⟩ i)) 3 x y h0 h1
    · exact chunk (fun i => a2 P (tile H ⟨n, h⟩ i)) 2 x y h0 h1
    · exact chunk (fun i => a2 P (tile H ⟨n, h⟩ i)) 1 x y h0 h1
    · exact chunk (fun i => a2 P (tile H ⟨n, h⟩ i)) 0 x y h0 (by rw [h1]; show _ = 0 * 1024 + _; omega)

theorem t8 (n : ℕ) (h : n < cfg0.N) : (outsAt0 m c n h).2.2.1 = up2 (df2T P (tile H ⟨n, h⟩) (tile T ⟨n, h⟩)) := by
  by_cases h0 : n % 16 = 0
  · rw [outsAt0_A m c ⟨n, h⟩ h0]
    frame_out
    simp only [iblk0 G, iblk1 G, iblk2 G, iblk3 G, iblk4 G, iblk5 G, ld1_0, ld1_1, ld1_2, ld1_3, ld2_0, ld2_1, ld2_2, ld2_3,
      pay5, pay9, pay13, pay16, pay17, pay22, pay23, pay24, pay29]
  · rw [outsAt0_B m c ⟨n, h⟩ h0]
    frame_out
    simp only [iblk0 G, iblk1 G, iblk2 G, iblk3 G, iblk4 G, iblk5 G, ld1_0, ld1_1, ld1_2, ld1_3, ld2_0, ld2_1, ld2_2, ld2_3,
      pay5, pay9, pay13, pay16, pay17, pay22, pay23, pay24, pay29]

theorem t9 (n : ℕ) (h : n < cfg0.N) : (outsAt0 m c n h).2.2.2.1 = up2 fun i => df1 P (tile H ⟨n, h⟩ i) (tile T ⟨n, h⟩ i) := by
  by_cases h0 : n % 16 = 0
  · rw [outsAt0_A m c ⟨n, h⟩ h0]
    frame_out
    simp only [iblk0 G, iblk1 G, iblk2 G, iblk3 G, iblk4 G, iblk5 G, ld1_0, ld1_1, ld1_2, ld1_3, ld2_0, ld2_1, ld2_2, ld2_3,
      pay3, pay4, pay5, pay8, pay9, pay11, pay13, pay15, pay16, pay17, pay19, pay22, pay23, pay24, pay27, pay29, pay31]
    simp (disch := decide) only [View.readCov_skip, View.readCov_cons_toLoadRect, pay32, pay33, pay34, pay35, pay36]
    funext y
    canon_tiles x h
    · exact chunk (fun i => df1 P (tile H ⟨n, h⟩ i) (tile T ⟨n, h⟩ i)) 3 x y h0 h1
    · exact chunk (fun i => df1 P (tile H ⟨n, h⟩ i) (tile T ⟨n, h⟩ i)) 2 x y h0 h1
    · exact chunk (fun i => df1 P (tile H ⟨n, h⟩ i) (tile T ⟨n, h⟩ i)) 1 x y h0 h1
    · exact chunk (fun i => df1 P (tile H ⟨n, h⟩ i) (tile T ⟨n, h⟩ i)) 0 x y h0 (by rw [h1]; show _ = 0 * 1024 + _; omega)
  · rw [outsAt0_B m c ⟨n, h⟩ h0]
    frame_out
    simp only [iblk0 G, iblk1 G, iblk2 G, iblk3 G, iblk4 G, iblk5 G, ld1_0, ld1_1, ld1_2, ld1_3, ld2_0, ld2_1, ld2_2, ld2_3,
      pay3, pay4, pay5, pay8, pay9, pay11, pay13, pay15, pay16, pay17, pay19, pay22, pay23, pay24, pay27, pay29, pay31]
    simp (disch := decide) only [View.readCov_skip, View.readCov_cons_toLoadRect, pay32, pay33, pay34, pay35, pay36]
    funext y
    canon_tiles x h
    · exact chunk (fun i => df1 P (tile H ⟨n, h⟩ i) (tile T ⟨n, h⟩ i)) 3 x y h0 h1
    · exact chunk (fun i => df1 P (tile H ⟨n, h⟩ i) (tile T ⟨n, h⟩ i)) 2 x y h0 h1
    · exact chunk (fun i => df1 P (tile H ⟨n, h⟩ i) (tile T ⟨n, h⟩ i)) 1 x y h0 h1
    · exact chunk (fun i => df1 P (tile H ⟨n, h⟩ i) (tile T ⟨n, h⟩ i)) 0 x y h0 (by rw [h1]; show _ = 0 * 1024 + _; omega)

theorem t10 (n : ℕ) (h : n < cfg0.N) : (outsAt0 m c n h).2.2.2.2.1 = up2 (dh1T P (tile H ⟨n, h⟩) (tile T ⟨n, h⟩)) := by
  by_cases h0 : n % 16 = 0
  · rw [outsAt0_A m c ⟨n, h⟩ h0]
    frame_out
    simp only [iblk0 G, iblk1 G, iblk2 G, iblk3 G, iblk4 G, iblk5 G, ld1_0, ld1_1, ld1_2, ld1_3, ld2_0, ld2_1, ld2_2, ld2_3,
      pay3, pay4, pay5, pay8, pay9, pay11, pay13, pay15, pay16, pay17, pay19, pay22, pay23, pay24, pay27, pay29, pay31]
    simp (disch := decide) only [View.readCov_skip, View.readCov_cons_toLoadRect, pay32, pay33, pay34, pay35, pay39, pay40, pay1]
  · rw [outsAt0_B m c ⟨n, h⟩ h0]
    frame_out
    simp only [iblk0 G, iblk1 G, iblk2 G, iblk3 G, iblk4 G, iblk5 G, ld1_0, ld1_1, ld1_2, ld1_3, ld2_0, ld2_1, ld2_2, ld2_3,
      pay3, pay4, pay5, pay8, pay9, pay11, pay13, pay15, pay16, pay17, pay19, pay22, pay23, pay24, pay27, pay29, pay31]
    simp (disch := decide) only [View.readCov_skip, View.readCov_cons_toLoadRect, pay32, pay33, pay34, pay35, pay39, pay40, pay1]

theorem t11B (n : ℕ) (h : n < cfg0.N) (h0 : ¬ n % 16 = 0) (A : Fin 8 → Row) (hA : (outsAt0 m c (n - 1) (Nat.lt_of_le_of_lt (Nat.sub_le _ _) h)).2.2.2.2.2 = up2 A) :
    (outsAt0 m c n h).2.2.2.2.2 = up2 fun r k => A r k + vec P (tile H ⟨n, h⟩) (tile T ⟨n, h⟩) r k := by
  rw [outsAt0_B m c ⟨n, h⟩ h0]
  frame_out
  simp only [iblk0 G, iblk1 G, iblk2 G, iblk3 G, iblk4 G, iblk5 G, ld1_0, ld1_1, ld1_2, ld1_3, ld2_0, ld2_1, ld2_2, ld2_3,
    pay4, pay5, pay8, pay9, pay11, pay13, pay15, pay16, pay17, pay19, pay22, pay23, pay24, pay29, pay31]
  simp (disch := decide) only [View.readCov_skip, View.readCov_cons_toLoadRect, pay32, pay33, pay34, pay35, hA, ld8_0, ld8_1, ld8_2, pay25, pay26, pay28, pay38]
  refine (rows3 _ _ _ _ _ A [] ((hs0_11 ⟨n, h⟩).read_unread _)).trans ?_
  congr 1
  funext r k
  unfold vec
  split_ifs <;> simp_all [row] <;> rfl

theorem t11A (n : ℕ) (h : n < cfg0.N) (h0 : n % 16 = 0) : (outsAt0 m c n h).2.2.2.2.2 = up2 (vec P (tile H ⟨n, h⟩) (tile T ⟨n, h⟩)) := by
  rw [outsAt0_A m c ⟨n, h⟩ h0]
  frame_out
  simp only [iblk0 G, iblk1 G, iblk2 G, iblk3 G, iblk4 G, iblk5 G, ld1_0, ld1_1, ld1_2, ld1_3, ld2_0, ld2_1, ld2_2, ld2_3,
    pay4, pay5, pay8, pay9, pay11, pay13, pay15, pay16, pay17, pay19, pay22, pay23, pay24, pay29, pay31]
  simp (disch := decide) only [View.readCov_skip, View.readCov_cons_toLoadRect, pay32, pay33, pay34, pay35]
  simp (disch := decide) only [View.readCov_fill]
  rw [pay2]
  simp only [ld8_0, ld8_1, ld8_2, pay25, pay26, pay28, pay38]
  rw [← View.read_writes_junk_eq_canon (ms0_11 ⟨n, h⟩).view]
  refine (rows3 _ _ _ _ _ (fun _ _ => 0) _ ((View.read_writes_junk_eq_canon (ms0_11 ⟨n, h⟩).view _).trans ?_)).trans ?_
  · funext y
    canon_tiles x h
    rfl
  congr 1
  funext r k
  unfold vec
  split_ifs <;> simp_all [row] <;> rfl

/-- The tiles' sums so far. -/
theorem t11 (n : ℕ) (h : n < cfg0.N) : (outsAt0 m c n h).2.2.2.2.2 = up2 fun r k => ∑ s ∈ Finset.range (n + 1),
    if hs : s < cfg0.N then vec P (tile H ⟨s, hs⟩) (tile T ⟨s, hs⟩) r k else 0 := by
  induction n with
  | zero =>
    rw [t11A G 0 h rfl]
    congr 1
    funext r k
    rw [Finset.sum_range_one, dif_pos h]
  | succ n ih =>
    have h16 : n + 1 < 16 := h
    rw [t11B G (n + 1) h (by omega) _ (ih (by show n < 16; omega))]
    congr 1
    funext r k
    rw [Finset.sum_range_succ _ (n + 1), dif_pos h]

end Cert.Tiles
end
-- ==== Proof.Arrays.lean ====
/- The six arrays the kernel leaves. -/
module

public import proofs.«01_k».proof.Proof.Outs

@[expose] public section

set_option maxRecDepth 16384

noncomputable section

namespace Cert.Tiles

open Idealize.ShloMosaic Idealize.ShloMosaic.TcCoe Cert.KernelIdeal Cert.KernelIdeal.Gen Cert.Lift Cert.Rows Cert.Payloads

variable {P : Weights} {H T : Fin 4096 → Row} {m : (ℓ : Loc nD τ sig) → Buf (Elt Ideal) ℓ} {c : Dev nD} (G : Given P H T m c)

/-- Row `i` of point `t`. -/
def row256 (t : Fin cfg0.N) (i : Fin 256) : Fin 4096 := ⟨t.val * 256 + i.val, by have : t.val < 16 := t.isLt; omega⟩

include G

theorem arr6 : (dats m 0 c).arrAt 6 cfg0.N = up2 (fun i => v P (H i)) :=
  (dats m 0 c).arrAt_eq_of_covers 6 _ (by decide +kernel) fun t hf y => by
    blk_simp
    rw [after0_6, t6 G]
    have e : (win0_6.blk t).view.emb y = ix2 (row256 t (y 0)) (y 1) := by
      funext a
      apply Fin.ext
      blk_simp
      match a with
      | ⟨0, _⟩ => simp [idx t, row256]
      | ⟨1, _⟩ => simp [idx t]
    rw [e]
    rfl

theorem arr7 : (dats m 0 c).arrAt 7 cfg0.N = up2 (fun i => a2 P (H i)) :=
  (dats m 0 c).arrAt_eq_of_covers 7 _ (by decide +kernel) fun t hf y => by
    blk_simp
    rw [after0_7, t7 G]
    have e : (win0_7.blk t).view.emb y = ix2 (row256 t (y 0)) (y 1) := by
      funext a
      apply Fin.ext
      blk_simp
      match a with
      | ⟨0, _⟩ => simp [idx t, row256]
      | ⟨1, _⟩ => simp [idx t]
    rw [e]
    rfl

theorem arr8 : (dats m 0 c).arrAt 8 cfg0.N = up2 (fun i => df2 P (H i) (T i)) :=
  (dats m 0 c).arrAt_eq_of_covers 8 _ (by decide +kernel) fun t hf y => by
    blk_simp
    rw [after0_8, t8 G]
    have e : (win0_8.blk t).view.emb y = ix2 (row256 t (y 0)) (y 1) := by
      funext a
      apply Fin.ext
      blk_simp
      match a with
      | ⟨0, _⟩ => simp [idx t, row256]
      | ⟨1, _⟩ => simp [idx t]
    rw [e]
    rfl

theorem arr9 : (dats m 0 c).arrAt 9 cfg0.N = up2 (fun i => df1 P (H i) (T i)) :=
  (dats m 0 c).arrAt_eq_of_covers 9 _ (by decide +kernel) fun t hf y => by
    blk_simp
    rw [after0_9, t9 G]
    have e : (win0_9.blk t).view.emb y = ix2 (row256 t (y 0)) (y 1) := by
      funext a
      apply Fin.ext
      blk_simp
      match a with
      | ⟨0, _⟩ => simp [idx t, row256]
      | ⟨1, _⟩ => simp [idx t]
    rw [e]
    rfl

theorem arr10 : (dats m 0 c).arrAt 10 cfg0.N = up2 (fun i => dh1 P (H i) (T i)) :=
  (dats m 0 c).arrAt_eq_of_covers 10 _ (by decide +kernel) fun t hf y => by
    blk_simp
    rw [after0_10, t10 G]
    have e : (win0_10.blk t).view.emb y = ix2 (row256 t (y 0)) (y 1) := by
      funext a
      apply Fin.ext
      blk_simp
      match a with
      | ⟨0, _⟩ => simp [idx t, row256]
      | ⟨1, _⟩ => simp [idx t]
    rw [e]
    rfl

omit G in
/-- The sum over the rows is the sum over the points of the sums over their rows. -/
theorem sum_tiles (f : Fin 4096 → ℝ) : ∑ s ∈ Finset.range 16, (if hs : s < cfg0.N then ∑ i, f (row256 ⟨s, hs⟩ i) else 0) = ∑ i, f i := by
  rw [Finset.sum_range]
  have e : ∀ s : Fin 16, (if hs : s.val < cfg0.N then ∑ i, f (row256 ⟨s.val, hs⟩ i) else 0) = ∑ i, f (row256 s i) :=
    fun s => dif_pos s.isLt
  simp only [e]
  rw [← Fintype.sum_prod_type']
  refine Fintype.sum_equiv (finProdFinEquiv (m := 16) (n := 256)) _ _ fun x => ?_
  congr 1
  apply Fin.ext
  show x.1.val * 256 + x.2.val = x.2.val + 256 * x.1.val
  omega

omit G in
theorem vec_tiles : (fun r k => ∑ s ∈ Finset.range 16, if hs : s < cfg0.N then vec P (tile H ⟨s, hs⟩) (tile T ⟨s, hs⟩) r k else 0) = vec P H T := by
  funext r k
  unfold vec
  split_ifs
  · exact sum_tiles fun i => dv P (H i) (T i) k * unit (H i) k
  · exact sum_tiles fun i => dh2 P (H i) (T i) k * unit (f2 P (H i)) k
  · rw [← sum_tiles fun i => err P (H i) (T i) k * err P (H i) (T i) k, Finset.sum_mul]
    refine Finset.sum_congr rfl fun s _ => ?_
    split_ifs
    · rfl
    · rw [zero_mul]
  · simp

theorem arr11 : (dats m 0 c).arrAt 11 cfg0.N = up2 (vec P H T) :=
  (dats m 0 c).arrAt_eq_of_after_last 11 t0_15 (by decide +kernel) _ fun j => by
    blk_simp
    rw [after0_11, t11 G]
    exact congrFun (congrArg up2 vec_tiles) j

end Cert.Tiles
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal.Run
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Weights.Claims
public import proofs.«01_k».proof.Proof.Entry.Claims
public import proofs.«01_k».proof.Proof.Mix.Claims
public import proofs.«01_k».proof.Proof.Mix.FrameKernel
public import proofs.«01_k».proof.Proof.Arrays
public import proofs.«01_k».proof.Proof.Reference
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference's arguments, when the kernel's are these arrays. -/
theorem holds {P : Rows.Weights} {H T : Fin 4096 → Rows.Row} {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (G : Tiles.Given P H T m c)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Reference.Holds P H T (StableHlo.launchContents m' c) :=
  ⟨e.1.trans G.h, e.2.1.trans G.t, e.2.2.1.trans G.g3, e.2.2.2.1.trans G.g4, e.2.2.2.2.1.trans G.w1, e.2.2.2.2.2.trans G.w2⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  letI := Cert.Pre_finite.Gen.facts
  pair_intro
  · run_from Cert.KernelIdeal.Value.run_blocks m g
  · run_from Cert.ReferenceIdeal.Value.run m' g'
    all_goals
      obtain ⟨P, H, T, h0, h1, h2, h3, h4, h5⟩ := Finite.exists_arrays _ _ _ _ _ _ (hpre c)
      have G : Tiles.Given P H T m c := ⟨h0, h1, h2, h3, h4, h5⟩
      have A := holds G (hagree c)
    · exact (Reference.v15 A).trans (Tiles.arr6 G).symm
    · exact (Reference.v21 A).trans (Tiles.arr7 G).symm
    · exact (Reference.v76 A).trans (Tiles.arr8 G).symm
    · exact (Reference.v80 A).trans (Tiles.arr9 G).symm
    · rw [← (hagree c).1]
      exact (Reference.out_dh1 A).trans (Tiles.arr10 G).symm
    · exact (Reference.out_vec A).trans (Tiles.arr11 G).symm

/-- The reference's frame: its run read at the arguments; it has no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem claim : Cert.Claim := ⟨Cert.Kernel.Gen.facts,
  Cert.KernelIdeal.Gen.facts,
  Cert.ReferenceIdeal.Gen.facts,
  Cert.Mix.Gen.facts,
  Cert.MixIdeal.Gen.facts,
  Cert.MixRefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.Out.Gen.facts,
  Cert.OutIdeal.Gen.facts,
  Cert.OutRefIdeal.Gen.facts,
  Cert.Pool.Gen.facts,
  Cert.PoolIdeal.Gen.facts,
  Cert.PoolRefIdeal.Gen.facts,
  Cert.Proj.Gen.facts,
  Cert.ProjIdeal.Gen.facts,
  Cert.ProjRefIdeal.Gen.facts,
  Cert.In.Gen.facts,
  Cert.InIdeal.Gen.facts,
  Cert.InRefIdeal.Gen.facts,
  Cert.Pre_finite.Gen.facts,
  Cert.Pre_finite_mix.Gen.facts,
  fun m ρ _ => Cert.Kernel.Gen.frame m ρ,
  fun m ρ _ => Cert.KernelIdeal.Gen.frame m ρ,
  fun m ρ _ => Cert.KernelIdeal.Gen.frame m ρ,
  frame_ri,
  fun m ρ _ => frame_ri m ρ trivial,
  Cert.Mixing.frame_kernel,
  Cert.Mixing.frame_ideal,
  fun m ρ _ => Cert.Mixing.frame_ideal m ρ trivial,
  Cert.Mixing.frame_ri,
  fun m ρ _ => Cert.Mixing.frame_ri m ρ trivial,
  fun m ρ _ => Cert.Up.Gen.frame m ρ,
  fun m ρ _ => Cert.UpIdeal.Gen.frame m ρ,
  Cert.Weights.Up.frame_ri,
  fun m ρ _ => Cert.Down.Gen.frame m ρ,
  fun m ρ _ => Cert.DownIdeal.Gen.frame m ρ,
  Cert.Weights.Down.frame_ri,
  fun m ρ _ => Cert.Out.Gen.frame m ρ,
  fun m ρ _ => Cert.OutIdeal.Gen.frame m ρ,
  Cert.Weights.Out.frame_ri,
  fun m ρ _ => Cert.Pool.Gen.frame m ρ,
  fun m ρ _ => Cert.PoolIdeal.Gen.frame m ρ,
  Cert.Weights.Pool.frame_ri,
  fun m ρ _ => Cert.Proj.Gen.frame m ρ,
  fun m ρ _ => Cert.ProjIdeal.Gen.frame m ρ,
  Cert.Weights.Proj.frame_ri,
  fun m ρ _ => Cert.In.Gen.frame m ρ,
  fun m ρ _ => Cert.InIdeal.Gen.frame m ρ,
  Cert.Entry.frame_ri,
  trivial,
  algebraic,
  trivial,
  Cert.Mixing.algebraic,
  trivial,
  Cert.Weights.Up.algebraic,
  trivial,
  Cert.Weights.Down.algebraic,
  trivial,
  Cert.Weights.Out.algebraic,
  trivial,
  Cert.Weights.Pool.algebraic,
  trivial,
  Cert.Weights.Proj.algebraic,
  trivial,
  Cert.Entry.algebraic⟩

end Cert.Proof

end
